-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 1024]⟩ ⟨2, ![1024, 1024]⟩ (Layout.meshBlock [2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![1024, 512]⟩ ⟨2, ![1024, 1024]⟩ (Layout.meshBlock [2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x1024 : Shape := ⟨2, ![512, 1024]⟩
abbrev S1024x512 : Shape := ⟨2, ![1024, 512]⟩
abbrev S512x512 : Shape := ⟨2, ![512, 512]⟩
abbrev S10 : Shape := ⟨1, ![10]⟩
abbrev S6 : Shape := ⟨1, ![6]⟩
abbrev S_ : Shape := ⟨0, ![]⟩
abbrev S32x512 : Shape := ⟨2, ![32, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c0_i32 : BitVec 32 := 0#32
  let v7 : BitVec 1 := Scalar.cmpi .eq v6 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_11 : BitVec 32 := 0#32
  let c1_i32_9 : BitVec 32 := 1#32
  let c2_i32_10 : BitVec 32 := 2#32
  let v17 : BitVec 32 := Scalar.muli c1_i32_9 c2_i32_10
  let v18 : BitVec 32 := Scalar.addi c0_i32_11 v17
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_12 : BitVec 32 := 1#32
  let v19 : BitVec 32 := Scalar.muli v2 c1_i32_12
  let v20 : BitVec 32 := Scalar.addi v18 v19
  v20.toNat
def k0_dev2 (d0 : Dev nD) : Nat :=
  let c0_i32_16 : BitVec 32 := 0#32
  let c0_i32_14 : BitVec 32 := 0#32
  let c2_i32_15 : BitVec 32 := 2#32
  let v21 : BitVec 32 := Scalar.muli c0_i32_14 c2_i32_15
  let v22 : BitVec 32 := Scalar.addi c0_i32_16 v21
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_17 : BitVec 32 := 1#32
  let v23 : BitVec 32 := Scalar.muli v3 c1_i32_17
  let v24 : BitVec 32 := Scalar.addi v22 v23
  v24.toNat
def k0_off1 (d0 : Dev nD) (c0_i32_20 : BitVec 32) (c480_i32 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_19 : BitVec 32 := 0#32
  let v25 : BitVec 1 := Scalar.cmpi .eq v2 c0_i32_19
  let v26 : BitVec 32 := Scalar.select v25 c0_i32_20 c480_i32
  let v27 : Index := Scalar.indexCast v26
  let c512 : Index := 512#32
  ![v27.toNat, 512]
def k0_off1_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_off2 (d0 : Dev nD) (c0_i32_20 : BitVec 32) (c480_i32 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_19 : BitVec 32 := 0#32
  let v25 : BitVec 1 := Scalar.cmpi .eq v2 c0_i32_19
  let v26 : BitVec 32 := Scalar.select v25 c0_i32_20 c480_i32
  let v30 : Index := Scalar.indexCast v26
  let c0 : Index := 0#32
  ![v30.toNat, 0]
def k0_off2_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_off3 (d0 : Dev nD) (c0_i32_24 : BitVec 32) (c0_i32_22 : BitVec 32) (c480_i32_23 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_21 : BitVec 32 := 0#32
  let v34 : BitVec 1 := Scalar.cmpi .eq v2 c0_i32_21
  let v35 : BitVec 32 := Scalar.select v34 c0_i32_22 c480_i32_23
  let v36 : BitVec 32 := Scalar.addi c0_i32_24 v35
  let c0_i32_31 : BitVec 32 := 0#32
  ![v36.toNat, 0]
def k0_off3_at (r : Fin 20) : BitVec 32 × BitVec 32 × BitVec 32 :=
  if r.val < 10 then
    if r.val < 5 then
      if r.val < 2 then
        if r.val < 1 then
          (0#32, 0#32, 480#32)
        else
          (0#32, 32#32, 448#32)
      else
        if r.val < 3 then
          (0#32, 64#32, 416#32)
        else
          if r.val < 4 then
            (0#32, 96#32, 384#32)
          else
            (0#32, 128#32, 352#32)
    else
      if r.val < 7 then
        if r.val < 6 then
          (0#32, 160#32, 320#32)
        else
          (0#32, 192#32, 288#32)
      else
        if r.val < 8 then
          (0#32, 224#32, 256#32)
        else
          if r.val < 9 then
            (0#32, 256#32, 224#32)
          else
            (0#32, 288#32, 192#32)
  else
    if r.val < 15 then
      if r.val < 12 then
        if r.val < 11 then
          (512#32, 0#32, 480#32)
        else
          (512#32, 32#32, 448#32)
      else
        if r.val < 13 then
          (512#32, 64#32, 416#32)
        else
          if r.val < 14 then
            (512#32, 96#32, 384#32)
          else
            (512#32, 128#32, 352#32)
    else
      if r.val < 17 then
        if r.val < 16 then
          (512#32, 160#32, 320#32)
        else
          (512#32, 192#32, 288#32)
      else
        if r.val < 18 then
          (512#32, 224#32, 256#32)
        else
          if r.val < 19 then
            (512#32, 256#32, 224#32)
          else
            (512#32, 288#32, 192#32)
def k0_off4 (d0 : Dev nD) (c0_i32_22 : BitVec 32) (c480_i32_23 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_21 : BitVec 32 := 0#32
  let v34 : BitVec 1 := Scalar.cmpi .eq v2 c0_i32_21
  let v35 : BitVec 32 := Scalar.select v34 c0_i32_22 c480_i32_23
  let c0_i32_32 : BitVec 32 := 0#32
  ![v35.toNat, 0]
def k0_off4_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_dev3 (d0 : Dev nD) : Nat :=
  let c0_i32_29 : BitVec 32 := 0#32
  let c1_i32_27 : BitVec 32 := 1#32
  let c2_i32_28 : BitVec 32 := 2#32
  let v37 : BitVec 32 := Scalar.muli c1_i32_27 c2_i32_28
  let v38 : BitVec 32 := Scalar.addi c0_i32_29 v37
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_30 : BitVec 32 := 1#32
  let v39 : BitVec 32 := Scalar.muli v2 c1_i32_30
  let v40 : BitVec 32 := Scalar.addi v38 v39
  v40.toNat
def k0_dev4 (d0 : Dev nD) : Nat :=
  let c0_i32_44 : BitVec 32 := 0#32
  let c1_i32_42 : BitVec 32 := 1#32
  let c2_i32_43 : BitVec 32 := 2#32
  let v59 : BitVec 32 := Scalar.muli c1_i32_42 c2_i32_43
  let v60 : BitVec 32 := Scalar.addi c0_i32_44 v59
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_45 : BitVec 32 := 1#32
  let v61 : BitVec 32 := Scalar.muli v2 c1_i32_45
  let v62 : BitVec 32 := Scalar.addi v60 v61
  v62.toNat
def k0_dev5 (d0 : Dev nD) : Nat :=
  let c0_i32_59 : BitVec 32 := 0#32
  let c1_i32_57 : BitVec 32 := 1#32
  let c2_i32_58 : BitVec 32 := 2#32
  let v81 : BitVec 32 := Scalar.muli c1_i32_57 c2_i32_58
  let v82 : BitVec 32 := Scalar.addi c0_i32_59 v81
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_60 : BitVec 32 := 1#32
  let v83 : BitVec 32 := Scalar.muli v2 c1_i32_60
  let v84 : BitVec 32 := Scalar.addi v82 v83
  v84.toNat
def k0_dev6 (d0 : Dev nD) : Nat :=
  let c0_i32_73 : BitVec 32 := 0#32
  let c1_i32_71 : BitVec 32 := 1#32
  let c2_i32_72 : BitVec 32 := 2#32
  let v103 : BitVec 32 := Scalar.muli c1_i32_71 c2_i32_72
  let v104 : BitVec 32 := Scalar.addi c0_i32_73 v103
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v105 : BitVec 32 := Scalar.muli v2 c1_i32_74
  let v106 : BitVec 32 := Scalar.addi v104 v105
  v106.toNat
def k0_dev7 (d0 : Dev nD) : Nat :=
  let c0_i32_87 : BitVec 32 := 0#32
  let c1_i32_85 : BitVec 32 := 1#32
  let c2_i32_86 : BitVec 32 := 2#32
  let v125 : BitVec 32 := Scalar.muli c1_i32_85 c2_i32_86
  let v126 : BitVec 32 := Scalar.addi c0_i32_87 v125
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_88 : BitVec 32 := 1#32
  let v127 : BitVec 32 := Scalar.muli v2 c1_i32_88
  let v128 : BitVec 32 := Scalar.addi v126 v127
  v128.toNat
def k0_dev8 (d0 : Dev nD) : Nat :=
  let c0_i32_101 : BitVec 32 := 0#32
  let c1_i32_99 : BitVec 32 := 1#32
  let c2_i32_100 : BitVec 32 := 2#32
  let v147 : BitVec 32 := Scalar.muli c1_i32_99 c2_i32_100
  let v148 : BitVec 32 := Scalar.addi c0_i32_101 v147
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_102 : BitVec 32 := 1#32
  let v149 : BitVec 32 := Scalar.muli v2 c1_i32_102
  let v150 : BitVec 32 := Scalar.addi v148 v149
  v150.toNat
def k0_dev9 (d0 : Dev nD) : Nat :=
  let c0_i32_115 : BitVec 32 := 0#32
  let c1_i32_113 : BitVec 32 := 1#32
  let c2_i32_114 : BitVec 32 := 2#32
  let v169 : BitVec 32 := Scalar.muli c1_i32_113 c2_i32_114
  let v170 : BitVec 32 := Scalar.addi c0_i32_115 v169
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_116 : BitVec 32 := 1#32
  let v171 : BitVec 32 := Scalar.muli v2 c1_i32_116
  let v172 : BitVec 32 := Scalar.addi v170 v171
  v172.toNat
def k0_dev10 (d0 : Dev nD) : Nat :=
  let c0_i32_129 : BitVec 32 := 0#32
  let c1_i32_127 : BitVec 32 := 1#32
  let c2_i32_128 : BitVec 32 := 2#32
  let v191 : BitVec 32 := Scalar.muli c1_i32_127 c2_i32_128
  let v192 : BitVec 32 := Scalar.addi c0_i32_129 v191
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_130 : BitVec 32 := 1#32
  let v193 : BitVec 32 := Scalar.muli v2 c1_i32_130
  let v194 : BitVec 32 := Scalar.addi v192 v193
  v194.toNat
def k0_dev11 (d0 : Dev nD) : Nat :=
  let c0_i32_145 : BitVec 32 := 0#32
  let c1_i32_143 : BitVec 32 := 1#32
  let c2_i32_144 : BitVec 32 := 2#32
  let v213 : BitVec 32 := Scalar.muli c1_i32_143 c2_i32_144
  let v214 : BitVec 32 := Scalar.addi c0_i32_145 v213
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_146 : BitVec 32 := 1#32
  let v215 : BitVec 32 := Scalar.muli v2 c1_i32_146
  let v216 : BitVec 32 := Scalar.addi v214 v215
  v216.toNat
def k0_dev12 (d0 : Dev nD) : Nat :=
  let c0_i32_161 : BitVec 32 := 0#32
  let c1_i32_159 : BitVec 32 := 1#32
  let c2_i32_160 : BitVec 32 := 2#32
  let v235 : BitVec 32 := Scalar.muli c1_i32_159 c2_i32_160
  let v236 : BitVec 32 := Scalar.addi c0_i32_161 v235
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_162 : BitVec 32 := 1#32
  let v237 : BitVec 32 := Scalar.muli v2 c1_i32_162
  let v238 : BitVec 32 := Scalar.addi v236 v237
  v238.toNat
def k0_dev13 (d0 : Dev nD) : Nat :=
  let c0_i32_189 : BitVec 32 := 0#32
  let c0_i32_187 : BitVec 32 := 0#32
  let c2_i32_188 : BitVec 32 := 2#32
  let v263 : BitVec 32 := Scalar.muli c0_i32_187 c2_i32_188
  let v264 : BitVec 32 := Scalar.addi c0_i32_189 v263
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_190 : BitVec 32 := 1#32
  let v265 : BitVec 32 := Scalar.muli v3 c1_i32_190
  let v266 : BitVec 32 := Scalar.addi v264 v265
  v266.toNat
def k0_dev14 (d0 : Dev nD) : Nat :=
  let c0_i32_214 : BitVec 32 := 0#32
  let c0_i32_212 : BitVec 32 := 0#32
  let c2_i32_213 : BitVec 32 := 2#32
  let v288 : BitVec 32 := Scalar.muli c0_i32_212 c2_i32_213
  let v289 : BitVec 32 := Scalar.addi c0_i32_214 v288
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_215 : BitVec 32 := 1#32
  let v290 : BitVec 32 := Scalar.muli v3 c1_i32_215
  let v291 : BitVec 32 := Scalar.addi v289 v290
  v291.toNat
def k0_dev15 (d0 : Dev nD) : Nat :=
  let c0_i32_239 : BitVec 32 := 0#32
  let c0_i32_237 : BitVec 32 := 0#32
  let c2_i32_238 : BitVec 32 := 2#32
  let v313 : BitVec 32 := Scalar.muli c0_i32_237 c2_i32_238
  let v314 : BitVec 32 := Scalar.addi c0_i32_239 v313
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_240 : BitVec 32 := 1#32
  let v315 : BitVec 32 := Scalar.muli v3 c1_i32_240
  let v316 : BitVec 32 := Scalar.addi v314 v315
  v316.toNat
def k0_dev16 (d0 : Dev nD) : Nat :=
  let c0_i32_264 : BitVec 32 := 0#32
  let c0_i32_262 : BitVec 32 := 0#32
  let c2_i32_263 : BitVec 32 := 2#32
  let v338 : BitVec 32 := Scalar.muli c0_i32_262 c2_i32_263
  let v339 : BitVec 32 := Scalar.addi c0_i32_264 v338
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_265 : BitVec 32 := 1#32
  let v340 : BitVec 32 := Scalar.muli v3 c1_i32_265
  let v341 : BitVec 32 := Scalar.addi v339 v340
  v341.toNat
def k0_dev17 (d0 : Dev nD) : Nat :=
  let c0_i32_289 : BitVec 32 := 0#32
  let c0_i32_287 : BitVec 32 := 0#32
  let c2_i32_288 : BitVec 32 := 2#32
  let v363 : BitVec 32 := Scalar.muli c0_i32_287 c2_i32_288
  let v364 : BitVec 32 := Scalar.addi c0_i32_289 v363
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_290 : BitVec 32 := 1#32
  let v365 : BitVec 32 := Scalar.muli v3 c1_i32_290
  let v366 : BitVec 32 := Scalar.addi v364 v365
  v366.toNat
def k0_dev18 (d0 : Dev nD) : Nat :=
  let c0_i32_314 : BitVec 32 := 0#32
  let c0_i32_312 : BitVec 32 := 0#32
  let c2_i32_313 : BitVec 32 := 2#32
  let v388 : BitVec 32 := Scalar.muli c0_i32_312 c2_i32_313
  let v389 : BitVec 32 := Scalar.addi c0_i32_314 v388
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_315 : BitVec 32 := 1#32
  let v390 : BitVec 32 := Scalar.muli v3 c1_i32_315
  let v391 : BitVec 32 := Scalar.addi v389 v390
  v391.toNat
def k0_off5 (d0 : Dev nD) (c0_i32_367 : BitVec 32) (c480_i32_368 : BitVec 32) : Fin 2 → Nat :=
  let c512_i32_370 : BitVec 32 := 512#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_366 : BitVec 32 := 0#32
  let v442 : BitVec 1 := Scalar.cmpi .eq v3 c0_i32_366
  let v443 : BitVec 32 := Scalar.select v442 c0_i32_367 c480_i32_368
  let v445 : BitVec 32 := Scalar.addi c512_i32_370 v443
  let c0_i32_377 : BitVec 32 := 0#32
  ![v445.toNat, 0]
def k0_off5_at (r : Fin 6) : BitVec 32 × BitVec 32 :=
  if r.val < 3 then
    if r.val < 1 then
      (0#32, 480#32)
    else
      if r.val < 2 then
        (32#32, 448#32)
      else
        (64#32, 416#32)
  else
    if r.val < 4 then
      (96#32, 384#32)
    else
      if r.val < 5 then
        (128#32, 352#32)
      else
        (160#32, 320#32)
def k0_cond2 (d0 : Dev nD) : BitVec 1 :=
  let v10 : BitVec 32 := Dev.word d0
  let c2_i32_5 : BitVec 32 := 2#32
  let v11 : BitVec 32 := Scalar.divsi v10 c2_i32_5
  let c2_i32_4 : BitVec 32 := 2#32
  let v12 : BitVec 32 := Scalar.remsi v11 c2_i32_4
  let c1_i32_6 : BitVec 32 := 1#32
  let v13 : BitVec 1 := Scalar.cmpi .eq v12 c1_i32_6
  let v14 : BitVec 32 := Scalar.extui v13
  let c0_i32_7 : BitVec 32 := 0#32
  let v15 : BitVec 1 := Scalar.cmpi .ne v14 c0_i32_7
  v15

def k0_dev19 (d0 : Dev nD) : Nat :=
  let c0_i32_11 : BitVec 32 := 0#32
  let c0_i32_9 : BitVec 32 := 0#32
  let c2_i32_10 : BitVec 32 := 2#32
  let v17 : BitVec 32 := Scalar.muli c0_i32_9 c2_i32_10
  let v18 : BitVec 32 := Scalar.addi c0_i32_11 v17
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_12 : BitVec 32 := 1#32
  let v19 : BitVec 32 := Scalar.muli v2 c1_i32_12
  let v20 : BitVec 32 := Scalar.addi v18 v19
  v20.toNat
def k0_dev20 (d0 : Dev nD) : Nat :=
  let c0_i32_16 : BitVec 32 := 0#32
  let c1_i32_14 : BitVec 32 := 1#32
  let c2_i32_15 : BitVec 32 := 2#32
  let v21 : BitVec 32 := Scalar.muli c1_i32_14 c2_i32_15
  let v22 : BitVec 32 := Scalar.addi c0_i32_16 v21
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_17 : BitVec 32 := 1#32
  let v23 : BitVec 32 := Scalar.muli v3 c1_i32_17
  let v24 : BitVec 32 := Scalar.addi v22 v23
  v24.toNat
def k0_off6 (d0 : Dev nD) (c0_i32_20 : BitVec 32) (c480_i32 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_19 : BitVec 32 := 0#32
  let v25 : BitVec 1 := Scalar.cmpi .eq v2 c0_i32_19
  let v26 : BitVec 32 := Scalar.select v25 c0_i32_20 c480_i32
  let v27 : Index := Scalar.indexCast v26
  let c0 : Index := 0#32
  ![v27.toNat, 0]
def k0_off6_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_off7 (d0 : Dev nD) (c0_i32_20 : BitVec 32) (c480_i32 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_19 : BitVec 32 := 0#32
  let v25 : BitVec 1 := Scalar.cmpi .eq v2 c0_i32_19
  let v26 : BitVec 32 := Scalar.select v25 c0_i32_20 c480_i32
  let v30 : Index := Scalar.indexCast v26
  let c0_21 : Index := 0#32
  ![v30.toNat, 0]
def k0_off7_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_off8 (d0 : Dev nD) (c512_i32 : BitVec 32) (c0_i32_23 : BitVec 32) (c480_i32_24 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_22 : BitVec 32 := 0#32
  let v34 : BitVec 1 := Scalar.cmpi .eq v2 c0_i32_22
  let v35 : BitVec 32 := Scalar.select v34 c0_i32_23 c480_i32_24
  let v36 : BitVec 32 := Scalar.addi c512_i32 v35
  let c0_i32_31 : BitVec 32 := 0#32
  ![v36.toNat, 0]
def k0_off8_at (r : Fin 20) : BitVec 32 × BitVec 32 × BitVec 32 :=
  if r.val < 10 then
    if r.val < 5 then
      if r.val < 2 then
        if r.val < 1 then
          (512#32, 0#32, 480#32)
        else
          (512#32, 32#32, 448#32)
      else
        if r.val < 3 then
          (512#32, 64#32, 416#32)
        else
          if r.val < 4 then
            (512#32, 96#32, 384#32)
          else
            (512#32, 128#32, 352#32)
    else
      if r.val < 7 then
        if r.val < 6 then
          (512#32, 160#32, 320#32)
        else
          (512#32, 192#32, 288#32)
      else
        if r.val < 8 then
          (512#32, 224#32, 256#32)
        else
          if r.val < 9 then
            (512#32, 256#32, 224#32)
          else
            (512#32, 288#32, 192#32)
  else
    if r.val < 15 then
      if r.val < 12 then
        if r.val < 11 then
          (0#32, 0#32, 480#32)
        else
          (0#32, 32#32, 448#32)
      else
        if r.val < 13 then
          (0#32, 64#32, 416#32)
        else
          if r.val < 14 then
            (0#32, 96#32, 384#32)
          else
            (0#32, 128#32, 352#32)
    else
      if r.val < 17 then
        if r.val < 16 then
          (0#32, 160#32, 320#32)
        else
          (0#32, 192#32, 288#32)
      else
        if r.val < 18 then
          (0#32, 224#32, 256#32)
        else
          if r.val < 19 then
            (0#32, 256#32, 224#32)
          else
            (0#32, 288#32, 192#32)
def k0_off9 (d0 : Dev nD) (c0_i32_23 : BitVec 32) (c480_i32_24 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_22 : BitVec 32 := 0#32
  let v34 : BitVec 1 := Scalar.cmpi .eq v2 c0_i32_22
  let v35 : BitVec 32 := Scalar.select v34 c0_i32_23 c480_i32_24
  let c0_i32_32 : BitVec 32 := 0#32
  ![v35.toNat, 0]
def k0_off9_at (r : Fin 10) : BitVec 32 × BitVec 32 :=
  if r.val < 5 then
    if r.val < 2 then
      if r.val < 1 then
        (0#32, 480#32)
      else
        (32#32, 448#32)
    else
      if r.val < 3 then
        (64#32, 416#32)
      else
        if r.val < 4 then
          (96#32, 384#32)
        else
          (128#32, 352#32)
  else
    if r.val < 7 then
      if r.val < 6 then
        (160#32, 320#32)
      else
        (192#32, 288#32)
    else
      if r.val < 8 then
        (224#32, 256#32)
      else
        if r.val < 9 then
          (256#32, 224#32)
        else
          (288#32, 192#32)
def k0_dev21 (d0 : Dev nD) : Nat :=
  let c0_i32_29 : BitVec 32 := 0#32
  let c0_i32_27 : BitVec 32 := 0#32
  let c2_i32_28 : BitVec 32 := 2#32
  let v37 : BitVec 32 := Scalar.muli c0_i32_27 c2_i32_28
  let v38 : BitVec 32 := Scalar.addi c0_i32_29 v37
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_30 : BitVec 32 := 1#32
  let v39 : BitVec 32 := Scalar.muli v2 c1_i32_30
  let v40 : BitVec 32 := Scalar.addi v38 v39
  v40.toNat
def k0_dev22 (d0 : Dev nD) : Nat :=
  let c0_i32_44 : BitVec 32 := 0#32
  let c0_i32_42 : BitVec 32 := 0#32
  let c2_i32_43 : BitVec 32 := 2#32
  let v59 : BitVec 32 := Scalar.muli c0_i32_42 c2_i32_43
  let v60 : BitVec 32 := Scalar.addi c0_i32_44 v59
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_45 : BitVec 32 := 1#32
  let v61 : BitVec 32 := Scalar.muli v2 c1_i32_45
  let v62 : BitVec 32 := Scalar.addi v60 v61
  v62.toNat
def k0_dev23 (d0 : Dev nD) : Nat :=
  let c0_i32_59 : BitVec 32 := 0#32
  let c0_i32_57 : BitVec 32 := 0#32
  let c2_i32_58 : BitVec 32 := 2#32
  let v81 : BitVec 32 := Scalar.muli c0_i32_57 c2_i32_58
  let v82 : BitVec 32 := Scalar.addi c0_i32_59 v81
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_60 : BitVec 32 := 1#32
  let v83 : BitVec 32 := Scalar.muli v2 c1_i32_60
  let v84 : BitVec 32 := Scalar.addi v82 v83
  v84.toNat
def k0_dev24 (d0 : Dev nD) : Nat :=
  let c0_i32_73 : BitVec 32 := 0#32
  let c0_i32_71 : BitVec 32 := 0#32
  let c2_i32_72 : BitVec 32 := 2#32
  let v103 : BitVec 32 := Scalar.muli c0_i32_71 c2_i32_72
  let v104 : BitVec 32 := Scalar.addi c0_i32_73 v103
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v105 : BitVec 32 := Scalar.muli v2 c1_i32_74
  let v106 : BitVec 32 := Scalar.addi v104 v105
  v106.toNat
def k0_dev25 (d0 : Dev nD) : Nat :=
  let c0_i32_87 : BitVec 32 := 0#32
  let c0_i32_85 : BitVec 32 := 0#32
  let c2_i32_86 : BitVec 32 := 2#32
  let v125 : BitVec 32 := Scalar.muli c0_i32_85 c2_i32_86
  let v126 : BitVec 32 := Scalar.addi c0_i32_87 v125
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_88 : BitVec 32 := 1#32
  let v127 : BitVec 32 := Scalar.muli v2 c1_i32_88
  let v128 : BitVec 32 := Scalar.addi v126 v127
  v128.toNat
def k0_dev26 (d0 : Dev nD) : Nat :=
  let c0_i32_101 : BitVec 32 := 0#32
  let c0_i32_99 : BitVec 32 := 0#32
  let c2_i32_100 : BitVec 32 := 2#32
  let v147 : BitVec 32 := Scalar.muli c0_i32_99 c2_i32_100
  let v148 : BitVec 32 := Scalar.addi c0_i32_101 v147
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_102 : BitVec 32 := 1#32
  let v149 : BitVec 32 := Scalar.muli v2 c1_i32_102
  let v150 : BitVec 32 := Scalar.addi v148 v149
  v150.toNat
def k0_dev27 (d0 : Dev nD) : Nat :=
  let c0_i32_115 : BitVec 32 := 0#32
  let c0_i32_113 : BitVec 32 := 0#32
  let c2_i32_114 : BitVec 32 := 2#32
  let v169 : BitVec 32 := Scalar.muli c0_i32_113 c2_i32_114
  let v170 : BitVec 32 := Scalar.addi c0_i32_115 v169
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_116 : BitVec 32 := 1#32
  let v171 : BitVec 32 := Scalar.muli v2 c1_i32_116
  let v172 : BitVec 32 := Scalar.addi v170 v171
  v172.toNat
def k0_dev28 (d0 : Dev nD) : Nat :=
  let c0_i32_129 : BitVec 32 := 0#32
  let c0_i32_127 : BitVec 32 := 0#32
  let c2_i32_128 : BitVec 32 := 2#32
  let v191 : BitVec 32 := Scalar.muli c0_i32_127 c2_i32_128
  let v192 : BitVec 32 := Scalar.addi c0_i32_129 v191
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_130 : BitVec 32 := 1#32
  let v193 : BitVec 32 := Scalar.muli v2 c1_i32_130
  let v194 : BitVec 32 := Scalar.addi v192 v193
  v194.toNat
def k0_dev29 (d0 : Dev nD) : Nat :=
  let c0_i32_145 : BitVec 32 := 0#32
  let c0_i32_143 : BitVec 32 := 0#32
  let c2_i32_144 : BitVec 32 := 2#32
  let v213 : BitVec 32 := Scalar.muli c0_i32_143 c2_i32_144
  let v214 : BitVec 32 := Scalar.addi c0_i32_145 v213
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_146 : BitVec 32 := 1#32
  let v215 : BitVec 32 := Scalar.muli v2 c1_i32_146
  let v216 : BitVec 32 := Scalar.addi v214 v215
  v216.toNat
def k0_dev30 (d0 : Dev nD) : Nat :=
  let c0_i32_161 : BitVec 32 := 0#32
  let c0_i32_159 : BitVec 32 := 0#32
  let c2_i32_160 : BitVec 32 := 2#32
  let v235 : BitVec 32 := Scalar.muli c0_i32_159 c2_i32_160
  let v236 : BitVec 32 := Scalar.addi c0_i32_161 v235
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_162 : BitVec 32 := 1#32
  let v237 : BitVec 32 := Scalar.muli v2 c1_i32_162
  let v238 : BitVec 32 := Scalar.addi v236 v237
  v238.toNat
def k0_dev31 (d0 : Dev nD) : Nat :=
  let c0_i32_189 : BitVec 32 := 0#32
  let c1_i32_187 : BitVec 32 := 1#32
  let c2_i32_188 : BitVec 32 := 2#32
  let v263 : BitVec 32 := Scalar.muli c1_i32_187 c2_i32_188
  let v264 : BitVec 32 := Scalar.addi c0_i32_189 v263
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_190 : BitVec 32 := 1#32
  let v265 : BitVec 32 := Scalar.muli v3 c1_i32_190
  let v266 : BitVec 32 := Scalar.addi v264 v265
  v266.toNat
def k0_dev32 (d0 : Dev nD) : Nat :=
  let c0_i32_214 : BitVec 32 := 0#32
  let c1_i32_212 : BitVec 32 := 1#32
  let c2_i32_213 : BitVec 32 := 2#32
  let v288 : BitVec 32 := Scalar.muli c1_i32_212 c2_i32_213
  let v289 : BitVec 32 := Scalar.addi c0_i32_214 v288
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_215 : BitVec 32 := 1#32
  let v290 : BitVec 32 := Scalar.muli v3 c1_i32_215
  let v291 : BitVec 32 := Scalar.addi v289 v290
  v291.toNat
def k0_dev33 (d0 : Dev nD) : Nat :=
  let c0_i32_239 : BitVec 32 := 0#32
  let c1_i32_237 : BitVec 32 := 1#32
  let c2_i32_238 : BitVec 32 := 2#32
  let v313 : BitVec 32 := Scalar.muli c1_i32_237 c2_i32_238
  let v314 : BitVec 32 := Scalar.addi c0_i32_239 v313
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_240 : BitVec 32 := 1#32
  let v315 : BitVec 32 := Scalar.muli v3 c1_i32_240
  let v316 : BitVec 32 := Scalar.addi v314 v315
  v316.toNat
def k0_dev34 (d0 : Dev nD) : Nat :=
  let c0_i32_264 : BitVec 32 := 0#32
  let c1_i32_262 : BitVec 32 := 1#32
  let c2_i32_263 : BitVec 32 := 2#32
  let v338 : BitVec 32 := Scalar.muli c1_i32_262 c2_i32_263
  let v339 : BitVec 32 := Scalar.addi c0_i32_264 v338
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_265 : BitVec 32 := 1#32
  let v340 : BitVec 32 := Scalar.muli v3 c1_i32_265
  let v341 : BitVec 32 := Scalar.addi v339 v340
  v341.toNat
def k0_dev35 (d0 : Dev nD) : Nat :=
  let c0_i32_289 : BitVec 32 := 0#32
  let c1_i32_287 : BitVec 32 := 1#32
  let c2_i32_288 : BitVec 32 := 2#32
  let v363 : BitVec 32 := Scalar.muli c1_i32_287 c2_i32_288
  let v364 : BitVec 32 := Scalar.addi c0_i32_289 v363
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_290 : BitVec 32 := 1#32
  let v365 : BitVec 32 := Scalar.muli v3 c1_i32_290
  let v366 : BitVec 32 := Scalar.addi v364 v365
  v366.toNat
def k0_dev36 (d0 : Dev nD) : Nat :=
  let c0_i32_314 : BitVec 32 := 0#32
  let c1_i32_312 : BitVec 32 := 1#32
  let c2_i32_313 : BitVec 32 := 2#32
  let v388 : BitVec 32 := Scalar.muli c1_i32_312 c2_i32_313
  let v389 : BitVec 32 := Scalar.addi c0_i32_314 v388
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_315 : BitVec 32 := 1#32
  let v390 : BitVec 32 := Scalar.muli v3 c1_i32_315
  let v391 : BitVec 32 := Scalar.addi v389 v390
  v391.toNat
def k0_off10 (d0 : Dev nD) (c0_i32_367 : BitVec 32) (c480_i32_368 : BitVec 32) : Fin 2 → Nat :=
  let c0_i32_370 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_366 : BitVec 32 := 0#32
  let v442 : BitVec 1 := Scalar.cmpi .eq v3 c0_i32_366
  let v443 : BitVec 32 := Scalar.select v442 c0_i32_367 c480_i32_368
  let v445 : BitVec 32 := Scalar.addi c0_i32_370 v443
  let c0_i32_377 : BitVec 32 := 0#32
  ![v445.toNat, 0]
def k0_off10_at (r : Fin 6) : BitVec 32 × BitVec 32 :=
  if r.val < 3 then
    if r.val < 1 then
      (0#32, 480#32)
    else
      if r.val < 2 then
        (32#32, 448#32)
      else
        (64#32, 416#32)
  else
    if r.val < 4 then
      (96#32, 384#32)
    else
      if r.val < 5 then
        (128#32, 352#32)
      else
        (160#32, 320#32)
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Places.lean ====
/- Where things lie: the two neighbours of a device on the 2 × 2 mesh, the rows of each chunk, the
   offsets and device numbers the kernel computes in closed form, and the contents every buffer has
   once its chunk has arrived. Nothing here mentions ownership. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Exch

open Cert.KernelIdeal Cert.KernelIdeal.Gen
open Idealize.ShloMosaic
open Idealize.ShloMosaic.TcCoe

variable {F : FTy → Type} [FloatOps F]

/-! ## The mesh -/

/-- First mesh coordinate of device `c`. -/
def px (c : Dev nD) : ℕ := c.val / 2
/-- Second mesh coordinate of device `c`. -/
def py (c : Dev nD) : ℕ := c.val % 2

set_option backward.proofsInPublic true in
/-- The device with the other first coordinate. -/
def xp (c : Dev nD) : Dev nD := ⟨(c.val + 2) % 4, Nat.mod_lt _ (by decide)⟩
set_option backward.proofsInPublic true in
/-- The device with the other second coordinate. -/
def yp (c : Dev nD) : Dev nD := ⟨c.val / 2 * 2 + (1 - c.val % 2), by
  have : c.val < 4 := c.isLt
  show _ < 4; omega⟩

/-- A device is its x-neighbour's x-neighbour, -/
theorem xp_xp (c : Dev nD) : xp (xp c) = c := by revert c; decide
/-- and its y-neighbour's y-neighbour; -/
theorem yp_yp (c : Dev nD) : yp (yp c) = c := by revert c; decide
/-- the x- and the y-neighbour of a device have the same neighbour in common. -/
theorem xp_yp (c : Dev nD) : xp (yp c) = yp (xp c) := by revert c; decide
/-- The first coordinate is 0 or 1; -/
theorem px_lt (c : Dev nD) : px c < 2 := by revert c; decide
/-- so is the second. -/
theorem py_lt (c : Dev nD) : py c < 2 := by revert c; decide
/-- A step along the first axis changes the first coordinate -/
theorem px_xp (c : Dev nD) : px (xp c) = 1 - px c := by revert c; decide
/-- and keeps the second; -/
theorem py_xp (c : Dev nD) : py (xp c) = py c := by revert c; decide
/-- a step along the second keeps the first -/
theorem px_yp (c : Dev nD) : px (yp c) = px c := by revert c; decide
/-- and changes the second. -/
theorem py_yp (c : Dev nD) : py (yp c) = 1 - py c := by revert c; decide

/-- Swapping the first coordinate, as a permutation of the mesh; -/
def xSwap : Dev nD ≃ Dev nD := ⟨xp, xp, xp_xp, xp_xp⟩
/-- and the second. -/
def ySwap : Dev nD ≃ Dev nD := ⟨yp, yp, yp_yp, yp_yp⟩

/-! ## The rows of a chunk -/

/-- First row of chunk `j` within a half: devices with second coordinate 0 walk down from the top,
    the others up from the bottom. -/
def row (y j : ℕ) : ℕ := if y = 0 then 32 * j else 480 - 32 * j

/-- Chunk `j` of a device's send buffer starts here; -/
abbrev sRow (c : Dev nD) (j : ℕ) : ℕ := row (py c) j
/-- chunk `j` that its x-neighbour writes into its result starts here; -/
abbrev xRow (c : Dev nD) (j : ℕ) : ℕ := (1 - px c) * 512 + row (py c) j
/-- and chunk `j` that its y-neighbour writes into its result, here. -/
abbrev yRow (c : Dev nD) (j : ℕ) : ℕ := (1 - px c) * 512 + row (1 - py c) j

/-- A chunk lies within its half. -/
theorem row_le (y : ℕ) {j : ℕ} (hj : j < 10) : row y j ≤ 480 := by unfold row; split <;> omega

/-- A chunk sent to the x-neighbour lands at that device's own row. -/
theorem xRow_xp (c : Dev nD) (j : ℕ) : xRow (xp c) j = px c * 512 + row (py c) j := by
  have := px_lt c
  unfold xRow; rw [px_xp, py_xp]; congr 2; omega

/-- A forwarded chunk lands on the y-neighbour at the row it has here. -/
theorem yRow_yp (c : Dev nD) (j : ℕ) : yRow (yp c) j = xRow c j := by
  have := py_lt c
  unfold yRow xRow; rw [px_yp, py_yp]; congr 2; omega

/-! ## What the kernel computes -/

section Closed
variable (c : Dev nD)

/-- The first branch is taken where the first coordinate is 0, -/
theorem cond1_iff : k0_cond1 c = 1#1 ↔ px c = 0 := by revert c; decide +kernel
/-- the second where it is 1. -/
theorem cond2_iff : k0_cond2 c = 1#1 ↔ px c = 1 := by revert c; decide +kernel

/-- First branch: where a chunk is loaded from the argument, -/
theorem off1_eq (h : k0_cond1 c = 1#1) (j : Fin 10) :
    k0_off1 c (k0_off1_at j).1 (k0_off1_at j).2 = ![sRow c j, (1 - px c) * 512] := by
  revert j h; revert c; decide +kernel
/-- where it is stored in the send buffer, -/
theorem off2_eq (h : k0_cond1 c = 1#1) (j : Fin 10) :
    k0_off2 c (k0_off2_at j).1 (k0_off2_at j).2 = ![sRow c j, 0] := by
  revert j h; revert c; decide +kernel
/-- where it is sent from, -/
theorem off4_eq (h : k0_cond1 c = 1#1) (j : Fin 10) :
    k0_off4 c (k0_off4_at j).1 (k0_off4_at j).2 = ![sRow c j, 0] := by
  revert j h; revert c; decide +kernel
/-- where it lands, -/
theorem off3_x (h : k0_cond1 c = 1#1) (j : Fin 10) :
    k0_off3 c (k0_off3_at (j.castLE (by decide))).1 (k0_off3_at (j.castLE (by decide))).2.1 (k0_off3_at (j.castLE (by decide))).2.2
      = ![xRow (xp c) j, 0] := by
  revert j h; revert c; decide +kernel
/-- and where a forwarded chunk lies. -/
theorem off3_r (h : k0_cond1 c = 1#1) (j : Fin 10) :
    k0_off3 c (k0_off3_at (Fin.natAdd 10 j)).1 (k0_off3_at (Fin.natAdd 10 j)).2.1 (k0_off3_at (Fin.natAdd 10 j)).2.2
      = ![xRow c j, 0] := by
  revert j h; revert c; decide +kernel

/-- Second branch: where a chunk is loaded from the argument, -/
theorem off6_eq (h : k0_cond2 c = 1#1) (j : Fin 10) :
    k0_off6 c (k0_off6_at j).1 (k0_off6_at j).2 = ![sRow c j, (1 - px c) * 512] := by
  revert j h; revert c; decide +kernel
/-- where it is stored in the send buffer, -/
theorem off7_eq (h : k0_cond2 c = 1#1) (j : Fin 10) :
    k0_off7 c (k0_off7_at j).1 (k0_off7_at j).2 = ![sRow c j, 0] := by
  revert j h; revert c; decide +kernel
/-- where it is sent from, -/
theorem off9_eq (h : k0_cond2 c = 1#1) (j : Fin 10) :
    k0_off9 c (k0_off9_at j).1 (k0_off9_at j).2 = ![sRow c j, 0] := by
  revert j h; revert c; decide +kernel
/-- where it lands, -/
theorem off8_x (h : k0_cond2 c = 1#1) (j : Fin 10) :
    k0_off8 c (k0_off8_at (j.castLE (by decide))).1 (k0_off8_at (j.castLE (by decide))).2.1 (k0_off8_at (j.castLE (by decide))).2.2
      = ![xRow (xp c) j, 0] := by
  revert j h; revert c; decide +kernel
/-- and where a forwarded chunk lies. -/
theorem off8_r (h : k0_cond2 c = 1#1) (j : Fin 10) :
    k0_off8 c (k0_off8_at (Fin.natAdd 10 j)).1 (k0_off8_at (Fin.natAdd 10 j)).2.1 (k0_off8_at (Fin.natAdd 10 j)).2.2
      = ![xRow c j, 0] := by
  revert j h; revert c; decide +kernel

/-- The device numbers computed on the first row of the mesh that name the x-neighbour: the barrier
    signal's, then the ten sends'. -/
def devX1 : Fin 11 → Dev nD → ℕ :=
  ![k0_dev1, k0_dev3, k0_dev4, k0_dev5, k0_dev6, k0_dev7, k0_dev8, k0_dev9, k0_dev10, k0_dev11, k0_dev12]
/-- Those that name the y-neighbour: the barrier signal's, then the six forwards'. -/
def devY1 : Fin 7 → Dev nD → ℕ :=
  ![k0_dev2, k0_dev13, k0_dev14, k0_dev15, k0_dev16, k0_dev17, k0_dev18]
/-- The same on the second row. -/
def devX2 : Fin 11 → Dev nD → ℕ :=
  ![k0_dev19, k0_dev21, k0_dev22, k0_dev23, k0_dev24, k0_dev25, k0_dev26, k0_dev27, k0_dev28, k0_dev29, k0_dev30]
@[inherit_doc devX2]
def devY2 : Fin 7 → Dev nD → ℕ :=
  ![k0_dev20, k0_dev31, k0_dev32, k0_dev33, k0_dev34, k0_dev35, k0_dev36]

/-- The first row's numbers for the x-neighbour do name it; -/
theorem devX1_eq (r : Fin 11) (h : k0_cond1 c = 1#1) : devX1 r c = (xp c).val := by
  revert h; revert r c; decide +kernel
/-- those for the y-neighbour too; -/
theorem devY1_eq (r : Fin 7) (h : k0_cond1 c = 1#1) : devY1 r c = (yp c).val := by
  revert h; revert r c; decide +kernel
/-- on the second row so do those for the x-neighbour -/
theorem devX2_eq (r : Fin 11) (h : k0_cond2 c = 1#1) : devX2 r c = (xp c).val := by
  revert h; revert r c; decide +kernel
/-- and those for the y-neighbour. -/
theorem devY2_eq (r : Fin 7) (h : k0_cond2 c = 1#1) : devY2 r c = (yp c).val := by
  revert h; revert r c; decide +kernel

end Closed

/-! ## The three buffers -/

/-- The staged argument, the staged result and the send buffer. -/
abbrev xM : Memref sig .tc .vmem S512x1024 .bf16 := Memref.whole cc0_stg0_0
@[inherit_doc xM]
abbrev oM : Memref sig .tc .vmem S1024x512 .bf16 := Memref.whole cc0_stg1_0
@[inherit_doc xM]
abbrev sM : Memref sig .tc .vmem S512x512 .bf16 := Memref.whole cc0_scratch0

/-- The `n` rows of the result from row `o`; -/
def oRows (o n : ℕ) : Finset S1024x512.Idx := Finset.univ.filter fun i => o ≤ (i 0).val ∧ (i 0).val < o + n
/-- and of the send buffer. -/
def sRows (o n : ℕ) : Finset S512x512.Idx := Finset.univ.filter fun i => o ≤ (i 0).val ∧ (i 0).val < o + n

/-- An element of the result is among `n` rows from `o` on by its row number; -/
theorem mem_oRows {o n : ℕ} {i : S1024x512.Idx} : i ∈ oRows o n ↔ o ≤ (i 0).val ∧ (i 0).val < o + n := by
  simp [oRows]
/-- so is one of the send buffer. -/
theorem mem_sRows {o n : ℕ} {i : S512x512.Idx} : i ∈ sRows o n ↔ o ≤ (i 0).val ∧ (i 0).val < o + n := by
  simp [sRows]

/-- A rectangle of the result as wide as the result is a range of rows; -/
theorem set_o (o n : ℕ) (off : Fin 2 → ℕ) (h : off = ![o, 0]) (inb) :
    (oM.view.slice (Rect.unit (s := S1024x512) off (![n, 512] : Fin 2 → ℕ) inb)).set = oRows o n := by
  subst h
  ext i
  refine (ValueKit.mem_set_slice_whole_iff cc0_stg1_0 _ i Rect.mem_set_unit).trans ?_
  rw [mem_oRows]
  have h1 : ((i : S1024x512.Idx) 1).val < 512 := (i 1).isLt
  constructor
  · intro h; exact h 0
  · intro h a
    match a with
    | ⟨0, _⟩ => exact h
    | ⟨1, _⟩ => exact ⟨Nat.zero_le _, h1.trans_eq (Nat.zero_add 512).symm⟩

/-- and so in the send buffer. -/
theorem set_s (o n : ℕ) (off : Fin 2 → ℕ) (h : off = ![o, 0]) (inb) :
    (sM.view.slice (Rect.unit (s := S512x512) off (![n, 512] : Fin 2 → ℕ) inb)).set = sRows o n := by
  subst h
  ext i
  refine (ValueKit.mem_set_slice_whole_iff cc0_scratch0 _ i Rect.mem_set_unit).trans ?_
  rw [mem_sRows]
  have h1 : ((i : S512x512.Idx) 1).val < 512 := (i 1).isLt
  constructor
  · intro h; exact h 0
  · intro h a
    match a with
    | ⟨0, _⟩ => exact h
    | ⟨1, _⟩ => exact ⟨Nat.zero_le _, h1.trans_eq (Nat.zero_add 512).symm⟩

/-! ## Contents -/

/-- A row and a column of a device's block (any numbers, wrapped). -/
def ix (r q : ℕ) : S512x1024.Idx := fun a => match a with
  | ⟨0, _⟩ => ⟨r % 512, Nat.mod_lt _ (by decide)⟩
  | ⟨1, _⟩ => ⟨q % 1024, Nat.mod_lt _ (by decide)⟩

/-- An index is the one made of its coordinates. -/
theorem ix_self (i : S512x1024.Idx) {r q : ℕ} (hr : (i 0).val = r) (hq : (i 1).val = q) : i = ix r q := by
  subst hr hq
  funext a
  match a with
  | ⟨0, _⟩ => exact Fin.ext (Nat.mod_eq_of_lt (i 0).isLt).symm
  | ⟨1, _⟩ => exact Fin.ext (Nat.mod_eq_of_lt (i 1).isLt).symm

variable (X : Dev nD → S512x1024.Idx → Elt F .bf16)

/-- Whether row `r` of a half is among the rows that devices of second coordinate `y` exchange. -/
def inX (y r : ℕ) : Prop := if y = 0 then r < 320 else 192 ≤ r
instance (y r : ℕ) : Decidable (inX y r) := by unfold inX; infer_instance

/-- The rows of the ten exchanged chunks are exchanged; -/
theorem inX_row (y : ℕ) {j r : ℕ} (hj : j < 10) (h : row y j ≤ r) (h' : r < row y j + 32) : inX y r := by
  unfold inX; unfold row at h h'; split <;> simp_all <;> omega

/-- those of the six that the other devices forward are not. -/
theorem not_inX_row {y : ℕ} (hy : y < 2) {j r : ℕ} (hj : j < 6) (h : row y j ≤ r) (h' : r < row y j + 32) :
    ¬ inX (1 - y) r := by
  unfold inX; unfold row at h h'
  obtain rfl | rfl : y = 0 ∨ y = 1 := by omega
  · simp at h h' ⊢; omega
  · simp at h h' ⊢; omega

/-- The device whose block row `R` of `c`'s result comes from: `c` itself in its own half; in the
    other half its x-neighbour for the rows they exchange, and the x-neighbour of its y-neighbour for
    those that come by way of the latter. -/
def src (c : Dev nD) (R : ℕ) : Dev nD :=
  if R / 512 = px c then c else if inX (py c) (R % 512) then xp c else yp (xp c)

/-- What `c`'s result holds in the end: at row `R`, column `q`, the entry in row `R % 512` and column
    `512 * px c + q` of the source's block. -/
def outC (c : Dev nD) : S1024x512.Idx → Elt F .bf16 := fun i =>
  X (src c (i 0).val) (ix ((i 0).val % 512) (px c * 512 + (i 1).val))

/-- What `c`'s send buffer holds: the half of its block that the x-neighbour keeps. -/
def sbC (c : Dev nD) : S512x512.Idx → Elt F .bf16 := fun i =>
  X c (ix (i 0).val ((1 - px c) * 512 + (i 1).val))

/-- In its own half a device's result comes from itself. -/
theorem src_own (c : Dev nD) {R : ℕ} (h : px c * 512 ≤ R) (h' : R < px c * 512 + 512) : src c R = c := by
  unfold src; rw [if_pos]; omega

/-- A row of a chunk from the x-neighbour comes from it; -/
theorem src_x (c : Dev nD) {j R : ℕ} (hj : j < 10) (h : xRow c j ≤ R) (h' : R < xRow c j + 32) : src c R = xp c := by
  have := px_lt c
  have hr := row_le (py c) hj
  unfold xRow at h h'
  unfold src
  have h1 : R / 512 = 1 - px c := by omega
  have h2 : R % 512 = R - (1 - px c) * 512 := by omega
  rw [if_neg (by omega), if_pos (inX_row (py c) hj (by omega) (by omega))]

/-- one of a chunk from the y-neighbour, from that one's x-neighbour. -/
theorem src_y (c : Dev nD) {j R : ℕ} (hj : j < 6) (h : yRow c j ≤ R) (h' : R < yRow c j + 32) : src c R = yp (xp c) := by
  have := px_lt c
  have hy := py_lt c
  have hr := row_le (1 - py c) (j := j) (by omega)
  unfold yRow at h h'
  unfold src
  have h1 : R / 512 = 1 - px c := by omega
  have h2 : R % 512 = R - (1 - px c) * 512 := by omega
  have h3 := not_inX_row (y := 1 - py c) (by omega) hj (r := R % 512) (by omega) (by omega)
  rw [show 1 - (1 - py c) = py c by omega] at h3
  rw [if_neg (by omega), if_neg h3]

/-! ### Storing and landing -/

/-- A chunk of the argument, loaded and stored into the send buffer, is that chunk of `sbC`. -/
theorem store_s (c : Dev nD) (o : ℕ) (o₁ o₂ : Fin 2 → ℕ) (h₁ : o₁ = ![o, (1 - px c) * 512]) (h₂ : o₂ = ![o, 0]) (inb₁ inb₂)
    (f : S512x512.Idx → Elt F .bf16) (i : S512x512.Idx) (hi : i ∈ sRows o 32) :
    (sM.access (Rect.unit (s := S512x512) o₂ S32x512.size inb₂)).write (Elt F) f
      (xM.view.readAt (Elt F) (Rect.unit (s := S512x1024) o₁ S32x512.size inb₁).toLoadRect (X c)) Finset.univ i = sbC X c i := by
  subst h₁ h₂
  rw [← set_s o 32 _ rfl inb₂] at hi
  obtain ⟨j, -, rfl⟩ := Finset.mem_map.1 hi
  refine (View.write_emb_of_mem _ _ (Finset.mem_univ j)).trans ?_
  rw [View.readAt_rect, View.read_apply]
  refine congrArg (X c) (ix_self _ ?_ ?_)
  · refine (ValueKit.view_emb_slice_whole_unit_val cc0_stg0_0 _ _ _ j 0).trans ?_
    exact (ValueKit.view_emb_slice_whole_unit_val cc0_scratch0 _ _ _ j 0).symm
  · refine (ValueKit.view_emb_slice_whole_unit_val cc0_stg0_0 _ _ _ j 1).trans ?_
    refine congrArg ((1 - px c) * 512 + ·) ?_
    exact ((ValueKit.view_emb_slice_whole_unit_val cc0_scratch0 _ _ _ j 1).trans (Nat.zero_add _)).symm

/-- The device's own half, loaded and stored into the result, is that half of `outC`. -/
theorem store_o (c : Dev nD) (o₁ o₂ : Fin 2 → ℕ) (h₁ : o₁ = ![0, px c * 512]) (h₂ : o₂ = ![px c * 512, 0]) (inb₁ inb₂)
    (f : S1024x512.Idx → Elt F .bf16) (i : S1024x512.Idx) (hi : i ∈ oRows (px c * 512) 512) :
    (oM.access (Rect.unit (s := S1024x512) o₂ S512x512.size inb₂)).write (Elt F) f
      (xM.view.readAt (Elt F) (Rect.unit (s := S512x1024) o₁ S512x512.size inb₁).toLoadRect (X c)) Finset.univ i = outC X c i := by
  subst h₁ h₂
  have hm := mem_oRows.1 hi
  rw [← set_o (px c * 512) 512 _ rfl inb₂] at hi
  obtain ⟨j, -, rfl⟩ := Finset.mem_map.1 hi
  refine (View.write_emb_of_mem _ _ (Finset.mem_univ j)).trans ?_
  rw [View.readAt_rect, View.read_apply]
  unfold outC
  rw [src_own c hm.1 hm.2]
  have e0 := ValueKit.view_emb_slice_whole_unit_val cc0_stg1_0 ![px c * 512, 0] S512x512.size inb₂ j 0
  have e1 := ValueKit.view_emb_slice_whole_unit_val cc0_stg1_0 ![px c * 512, 0] S512x512.size inb₂ j 1
  refine congrArg (X c) (ix_self _ ?_ ?_)
  · refine (ValueKit.view_emb_slice_whole_unit_val cc0_stg0_0 _ _ _ j 0).trans ?_
    refine Eq.trans ?_ (congrArg (· % 512) e0.symm)
    have : (j 0).val < 512 := (j 0).isLt
    show 0 + (j 0).val = (px c * 512 + (j 0).val) % 512
    omega
  · refine (ValueKit.view_emb_slice_whole_unit_val cc0_stg0_0 _ _ _ j 1).trans ?_
    exact congrArg (px c * 512 + ·) (e1.trans (Nat.zero_add _)).symm

/-- A chunk of the send buffer, landed on the x-neighbour's result, is that chunk of its `outC`. -/
theorem land_x (c : Dev nD) (j : ℕ) (hj : j < 10) (o₁ o₂ : Fin 2 → ℕ) (h₁ : o₁ = ![sRow c j, 0]) (h₂ : o₂ = ![xRow (xp c) j, 0]) (inb₁ inb₂ e₁ e₂)
    (f : S1024x512.Idx → Elt F .bf16) (i : S1024x512.Idx) (hi : i ∈ oRows (xRow (xp c) j) 32) :
    (oM.slice (Rect.unit (s := S1024x512) o₂ S32x512.size inb₂) e₂).view.write (Elt F) f
      ((sM.slice (Rect.unit (s := S512x512) o₁ S32x512.size inb₁) e₁).view.read (Elt F) (sbC X c)) Finset.univ i = outC X (xp c) i := by
  subst h₁ h₂
  have hm := mem_oRows.1 hi
  rw [← set_o (xRow (xp c) j) 32 _ rfl inb₂] at hi
  obtain ⟨x, -, rfl⟩ := Finset.mem_map.1 hi
  refine (View.write_emb_of_mem _ _ (Finset.mem_univ x)).trans ?_
  rw [View.read_apply]
  unfold outC
  rw [src_x (xp c) hj hm.1 hm.2, xp_xp]
  have e0 := ValueKit.view_emb_slice_whole_unit_val cc0_stg1_0 ![xRow (xp c) j, 0] S32x512.size inb₂ x 0
  have e1 := ValueKit.view_emb_slice_whole_unit_val cc0_stg1_0 ![xRow (xp c) j, 0] S32x512.size inb₂ x 1
  have d0 := ValueKit.view_emb_slice_whole_unit_val cc0_scratch0 ![sRow c j, 0] S32x512.size inb₁ x 0
  have d1 := ValueKit.view_emb_slice_whole_unit_val cc0_scratch0 ![sRow c j, 0] S32x512.size inb₁ x 1
  refine congrArg (X c) (congr (congrArg ix ?_) ?_)
  · refine d0.trans (Eq.trans ?_ (congrArg (· % 512) e0.symm))
    have : (x 0).val < 32 := (x 0).isLt
    have := row_le (py c) hj
    have hx := xRow_xp c j
    show row (py c) j + (x 0).val = (xRow (xp c) j + (x 0).val) % 512
    omega
  · rw [px_xp]
    exact congrArg ((1 - px c) * 512 + ·) (d1.trans e1.symm)

/-- On a forwarded chunk the two neighbours' results agree. -/
theorem outC_fwd (c : Dev nD) {j : ℕ} (hj : j < 6) {i : S1024x512.Idx} (hi : i ∈ oRows (xRow c j) 32) :
    outC X c i = outC X (yp c) i := by
  have hm := mem_oRows.1 hi
  unfold outC
  rw [src_x c (by omega) hm.1 hm.2, src_y (yp c) hj (R := (i 0).val) (by rw [yRow_yp]; exact hm.1) (by rw [yRow_yp]; exact hm.2),
    xp_yp, yp_yp, px_yp]

/-- A chunk that has arrived from the x-neighbour, forwarded to the y-neighbour, is that chunk of its `outC`. -/
theorem land_y (c : Dev nD) (j : ℕ) (hj : j < 6) (o₁ o₂ : Fin 2 → ℕ) (h₁ : o₁ = ![xRow c j, 0]) (h₂ : o₂ = ![xRow c j, 0]) (inb₁ inb₂ e₁ e₂)
    (f : S1024x512.Idx → Elt F .bf16) (i : S1024x512.Idx) (hi : i ∈ oRows (xRow c j) 32) :
    (oM.slice (Rect.unit (s := S1024x512) o₂ S32x512.size inb₂) e₂).view.write (Elt F) f
      ((oM.slice (Rect.unit (s := S1024x512) o₁ S32x512.size inb₁) e₁).view.read (Elt F) (outC X c)) Finset.univ i = outC X (yp c) i := by
  subst h₁ h₂
  have hi' := hi
  rw [← set_o (xRow c j) 32 _ rfl inb₂] at hi
  obtain ⟨x, -, rfl⟩ := Finset.mem_map.1 hi
  refine (View.write_emb_of_mem _ _ (Finset.mem_univ x)).trans ?_
  rw [View.read_apply]
  exact outC_fwd X c hj hi'

end Cert.KernelIdeal.Exch

end
-- ==== Proof.KernelIdeal.Sched.lean ====
/- The protocol as a schedule: which semaphore cells there are, what each of them is paid with, what
   every device owes at the start, and the levels that order the waits. -/
module

public import proofs.«01_k».proof.Proof.KernelIdeal.Places

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's resources (its duties are `Bool`) beside the launch's own. -/
abbrev UB : Type := URounds (GSem nD τ sig) Bool
@[inherit_doc UB]
abbrev UU : Type := UR sig nD τ × UB

local notation "𝕄" => MT nD τ sig Unit (Elt F) ℕ UU ℕ

/-- Where the launch's resources are among all, -/
abbrev EP : Emb (UR sig nD τ) (MT nD τ sig Unit (Elt F) ℕ UU ℕ) := embL
/-- and where the exchange's are. -/
abbrev ER : Emb UB (MT nD τ sig Unit (Elt F) ℕ UU ℕ) := embR

/-! ## The cells -/

/-- The barrier semaphore. -/
abbrev barS : Sem sig := (SemArray.scalar (sig.barrier 0 rfl) : Sems sig S_).sem

/-- The transfers' semaphores: the x-sends' and x-receives' (ten each), the forwards' two (six each). -/
abbrev DK : Type := Fin 10 ⊕ Fin 10 ⊕ Fin 6 ⊕ Fin 6
/-- The semaphore of a send to the x-neighbour; -/
abbrev xs (j : Fin 10) : DK := .inl j
/-- of a receipt from it; -/
abbrev xr (j : Fin 10) : DK := .inr (.inl j)
/-- of a forward to the y-neighbour; -/
abbrev ys (j : Fin 6) : DK := .inr (.inr (.inl j))
/-- of a receipt from that. -/
abbrev yr (j : Fin 6) : DK := .inr (.inr (.inr j))

set_option backward.proofsInPublic true in
/-- Their places in the pool; -/
def dmaNo : DK → DmaSem sig
  | .inl j => ⟨2 + j.val, by have := j.isLt; show _ < 34; omega⟩
  | .inr (.inl j) => ⟨12 + j.val, by have := j.isLt; show _ < 34; omega⟩
  | .inr (.inr (.inl j)) => ⟨22 + j.val, by have := j.isLt; show _ < 34; omega⟩
  | .inr (.inr (.inr j)) => ⟨28 + j.val, by have := j.isLt; show _ < 34; omega⟩

set_option backward.proofsInPublic true in
/-- and which of them lies at a place (the first two places are the staging's). -/
def dec (q : DmaSem sig) : Option DK :=
  if h : q.val < 2 then none
  else if h₁ : q.val < 12 then some (.inl ⟨q.val - 2, by omega⟩)
  else if h₂ : q.val < 22 then some (.inr (.inl ⟨q.val - 12, by omega⟩))
  else if h₃ : q.val < 28 then some (.inr (.inr (.inl ⟨q.val - 22, by omega⟩)))
  else some (.inr (.inr (.inr ⟨q.val - 28, by have : q.val < 34 := q.isLt; omega⟩)))

/-- At the place of a semaphore lies that semaphore. -/
theorem dec_dmaNo (k : DK) : dec (dmaNo k) = some k := by revert k; decide +kernel

/-- All the cells of a device: the barrier's and the transfers'. -/
abbrev CK : Type := Unit ⊕ DK
/-- A transfer's semaphore; -/
abbrev osem (k : DK) : SemLoc sig := .dma (dmaNo k)
/-- any of the cells, as a semaphore; -/
abbrev csem : CK → SemLoc sig := fun | .inl _ => .reg barS | .inr k => osem k
/-- that, on a device; -/
abbrev kcell (p : Dev nD × CK) : GSem nD τ sig := ((p.1 : Thread nD τ), csem p.2)
/-- a device's barrier cell; -/
abbrev barCell (c : Dev nD) : GSem nD τ sig := ((c : Thread nD τ), .reg barS)
/-- and the cell of one of its transfers. -/
abbrev dcell (c : Dev nD) (k : DK) : GSem nD τ sig := ((c : Thread nD τ), osem k)

/-- What one chunk's transfer counts. -/
def N : ℕ := RefSig.tileCredit S32x512 .bf16
/-- Every view of a chunk's shape counts that. -/
theorem credit {sp : Space} (v : View sig .tc sp S32x512 .bf16) : v.dmaCredit = N := rfl
/-- It is positive. -/
theorem N_pos : 0 < N := RefSig.tileCredit_pos S32x512 .bf16 (by decide)

/-! ## The pieces of the buffers -/

variable (X : Dev nD → S512x1024.Idx → Elt F .bf16)

/-- A set of the result's elements on `c`, at `f`; -/
def oPts (c : Dev nD) (S : Finset S1024x512.Idx) (f : S1024x512.Idx → Elt F .bf16) : sProp 𝕄 :=
  ((c : Thread nD τ).loc cc0_stg1_0) ↦[S]{fullShare} f
/-- of the send buffer's; -/
def sPts (c : Dev nD) (S : Finset S512x512.Idx) (f : S512x512.Idx → Elt F .bf16) : sProp 𝕄 :=
  ((c : Thread nD τ).loc cc0_scratch0) ↦[S]{fullShare} f
/-- the whole argument. -/
def xPts (c : Dev nD) : sProp 𝕄 := ((c : Thread nD τ).loc cc0_stg0_0) ↦{fullShare} X c

omit [FloatOps F] in
instance oPts_storable (c : Dev nD) (S f) : BI.Storable (upEmb : UEmb _ 𝕄) (oPts (F := F) c S f) := by unfold oPts; infer_instance
omit [FloatOps F] in
instance sPts_storable (c : Dev nD) (S f) : BI.Storable (upEmb : UEmb _ 𝕄) (sPts (F := F) c S f) := by unfold sPts; infer_instance

/-- A chunk's rows of the result, at whatever they hold. -/
def oAny (c : Dev nD) (r : ℕ) : sProp 𝕄 := iprop(∃ f, oPts (F := F) c (oRows r 32) f)
omit [FloatOps F] in
instance oAny_storable (c : Dev nD) (r : ℕ) : BI.Storable (upEmb : UEmb _ 𝕄) (oAny (F := F) c r) := by unfold oAny; infer_instance

/-! ## What a payment hands over -/

/-- The x-neighbour's barrier signal hands over its result's rows of the ten chunks to come to it; -/
def barX (c : Dev nD) : sProp 𝕄 := bigSep Finset.univ fun j : Fin 10 => oAny (F := F) (xp c) (xRow (xp c) j)
/-- the y-neighbour's, the rows of the six. -/
def barY (c : Dev nD) : sProp 𝕄 := bigSep Finset.univ fun j : Fin 6 => oAny (F := F) (yp c) (yRow (yp c) j)

/-- A transfer's: the send semaphores' give back the chunk that was read, the receive semaphores' give
    the chunk that has come. -/
def pay (c : Dev nD) : DK → sProp 𝕄
  | .inl j => sPts c (sRows (sRow c j) 32) (sbC X c)
  | .inr (.inl j) => oPts c (oRows (xRow c j) 32) (outC X c)
  | .inr (.inr (.inl j)) => oPts c (oRows (xRow c j) 32) (outC X c)
  | .inr (.inr (.inr j)) => oPts c (oRows (yRow c j) 32) (outC X c)

omit [FloatOps F] in
instance pay_storable (c : Dev nD) (k : DK) : BI.Storable (upEmb : UEmb _ 𝕄) (pay (F := F) X c k) := by
  rcases k with j | j | j | j <;> (unfold pay; infer_instance)

/-- The duties of a semaphore in the one round there is. -/
def dutiesOf : SemLoc sig → Finset Bool
  | .reg _ => Finset.univ
  | .dma q => if (dec q).isSome then {false} else ∅

/-- Its payload on device `c`. -/
def payOf (c : Dev nD) (d : Bool) : SemLoc sig → sProp 𝕄
  | .reg _ => if d then barY c else barX c
  | .dma q => match dec q with
    | some k => pay X c k
    | none => iprop(emp)

/-- How much a duty counts. -/
def amountOf : SemLoc sig → ℕ
  | .reg _ => 1
  | .dma _ => N

/-- The exchange's schedule: one round. A device's barrier cell takes a unit from each neighbour, a
    transfer's cell the credit of one chunk. -/
def Rd : Rounds.Schedule (GSem nD τ sig) Bool 𝕄 where
  duties g r := if r = 0 ∧ g.1.2 = .tc then dutiesOf g.2 else ∅
  unitless _ := False
  amount g _ _ := amountOf g.2
  payload g _ d := payOf X g.1.1 d g.2
  amount_pos g _ _ _ := by
    unfold amountOf; split
    · exact Nat.one_pos
    · exact N_pos

omit [FloatOps F] in
instance Rd_payload_storable (g : GSem nD τ sig) (r : ℕ) (d : Bool) :
    BI.Storable (upEmb : UEmb _ 𝕄) ((Rd (F := F) X).payload g r d) := by
  show BI.Storable upEmb (payOf X g.1.1 d g.2)
  unfold payOf barX barY
  (repeat' split) <;> infer_instance

omit [FloatOps F] in
/-- The barrier cell has two duties; -/
theorem duties_bar (c : Dev nD) : (Rd (F := F) X).duties (barCell c) 0 = Finset.univ := by dsimp only [Rd]; exact if_pos ⟨rfl, rfl⟩
omit [FloatOps F] in
/-- a transfer's cell has one; -/
theorem duties_d (c : Dev nD) (k : DK) : (Rd (F := F) X).duties (dcell c k) 0 = {false} := by
  dsimp only [Rd]
  rw [if_pos ⟨rfl, rfl⟩]
  show (if (dec (dmaNo k)).isSome then {false} else ∅ : Finset Bool) = _
  rw [dec_dmaNo]; rfl
omit [FloatOps F] in
/-- there are none in later rounds. -/
theorem duties_later (g : GSem nD τ sig) : ∀ r, 1 ≤ r → (Rd (F := F) X).duties g r = ∅ :=
  fun r hr => if_neg fun h => by omega
omit [FloatOps F] in
/-- A transfer's duty hands over its chunk. -/
theorem payload_d (c : Dev nD) (k : DK) (d : Bool) : (Rd (F := F) X).payload (dcell c k) 0 d = pay X c k := by
  show (match dec (dmaNo k) with | some k => pay X c k | none => iprop(emp)) = _
  rw [dec_dmaNo]
omit [FloatOps F] in
/-- The barrier cell expects two units, -/
theorem expect_bar (c : Dev nD) : (Rd (F := F) X).expect (barCell c) 0 = 2 := by
  unfold Schedule.expect Schedule.amountOf; rw [duties_bar]; rfl
omit [FloatOps F] in
/-- a transfer cell one chunk's. -/
theorem expect_d (c : Dev nD) (k : DK) : (Rd (F := F) X).expect (dcell c k) 0 = N := by
  unfold Schedule.expect Schedule.amountOf; rw [duties_d, Finset.sum_singleton]; rfl
omit [FloatOps F] in
/-- What the wait on the barrier gives. -/
theorem rest_bar (c : Dev nD) :
    bigSep ((Rd (F := F) X).duties (barCell c) 0 \ ∅) (fun d => (Rd (F := F) X).payload (barCell c) 0 d) = iprop(barX c ∗ barY c) := by
  rw [Finset.sdiff_empty, duties_bar, bigSep_univ_eq_bigSepL [false, true] (by decide) (by decide), bigSepL_cons_cons, bigSepL_singleton]
  rfl
omit [FloatOps F] in
/-- What the wait on a transfer's cell gives. -/
theorem rest_d (c : Dev nD) (k : DK) :
    bigSep ((Rd (F := F) X).duties (dcell c k) 0 \ ∅) (fun d => (Rd (F := F) X).payload (dcell c k) 0 d) = pay X c k := by
  rw [Finset.sdiff_empty, duties_d, bigSep_singleton, payload_d]

/-! ## Debts and levels -/

/-- What `c` still owes the x-neighbour's receive cells when it has sent chunks below `n`; -/
def xO (c : Dev nD) (n : ℕ) : CellTallies nD τ sig Unit :=
  ∑ j ∈ Finset.univ.filter (fun j : Fin 10 => n ≤ j.val), tallyAt (dcell (xp c) (xr j)) () N
/-- and the y-neighbour's. -/
def yO (c : Dev nD) (n : ℕ) : CellTallies nD τ sig Unit :=
  ∑ j ∈ Finset.univ.filter (fun j : Fin 6 => n ≤ j.val), tallyAt (dcell (yp c) (yr j)) () N
/-- All it owes at the start. -/
def O₀ (c : Dev nD) : CellTallies nD τ sig Unit :=
  xO c 0 + yO c 0 + tallyAt (barCell (yp c)) () 1 + tallyAt (barCell (xp c)) () 1

/-- The numbers from `n` on are `n` and those after it, -/
theorem filter_ge_succ {K n : ℕ} (hn : n < K) :
    (Finset.univ.filter fun j : Fin K => n ≤ j.val) = insert ⟨n, hn⟩ (Finset.univ.filter fun j : Fin K => n + 1 ≤ j.val) := by
  ext j; simp only [Finset.mem_filter, Finset.mem_univ, true_and, Finset.mem_insert, Fin.ext_iff]; omega
/-- among which it is not. -/
theorem not_mem_filter_ge {K n : ℕ} (hn : n < K) : (⟨n, hn⟩ : Fin K) ∉ Finset.univ.filter fun j : Fin K => n + 1 ≤ j.val := by
  simp

/-- To send a chunk is to owe one less; -/
theorem xO_step (c : Dev nD) (n : ℕ) (hn : n < 10) : xO c n = xO c (n + 1) + tallyAt (dcell (xp c) (xr ⟨n, hn⟩)) () N := by
  unfold xO; rw [filter_ge_succ hn, Finset.sum_insert (not_mem_filter_ge hn), add_comm]
/-- so is to forward one. -/
theorem yO_step (c : Dev nD) (n : ℕ) (hn : n < 6) : yO c n = yO c (n + 1) + tallyAt (dcell (yp c) (yr ⟨n, hn⟩)) () N := by
  unfold yO; rw [filter_ge_succ hn, Finset.sum_insert (not_mem_filter_ge hn), add_comm]
/-- After the last send nothing is owed to the x-neighbour; -/
theorem xO_end (c : Dev nD) : xO c 10 = 0 := by unfold xO; exact Finset.sum_eq_zero fun j hj => by simp at hj; omega
/-- after the last forward, nothing to the y-neighbour. -/
theorem yO_end (c : Dev nD) : yO c 6 = 0 := by unfold yO; exact Finset.sum_eq_zero fun j hj => by simp at hj; omega

/-- A single debt is owed to its cell only, -/
theorem tallyAt_pos {g g' : GSem nD τ sig} {k : ℕ} {u u' : Unit} (h : 0 < tallyAt g u k g' u') : g' = g := by
  rw [tallyAt_apply] at h
  by_contra hn
  rw [if_neg fun h' => hn h'.1] at h
  exact Nat.lt_irrefl 0 h
/-- what two debts owe together one of them owes, -/
theorem add_pos_or {A B : CellTallies nD τ sig Unit} {g : GSem nD τ sig} {u : Unit} (h : 0 < (A + B) g u) : 0 < A g u ∨ 0 < B g u := by
  rw [Pi.add_apply, Finsupp.add_apply] at h; omega
/-- and so with a sum of debts. -/
theorem sum_pos_ex {J : Type} {S : Finset J} {A : J → CellTallies nD τ sig Unit} {g : GSem nD τ sig} {u : Unit}
    (h : 0 < (∑ j ∈ S, A j) g u) : ∃ j, 0 < A j g u := by
  rw [Finset.sum_apply, Finsupp.finset_sum_apply] at h
  obtain ⟨j, -, hj⟩ := Finset.exists_ne_zero_of_sum_ne_zero (Nat.pos_iff_ne_zero.1 h)
  exact ⟨j, Nat.pos_iff_ne_zero.2 hj⟩

/-- The sends' debts are owed to the x-neighbour's receive cells, -/
theorem xO_pos {c : Dev nD} {n : ℕ} {g : GSem nD τ sig} {u : Unit} (h : 0 < xO c n g u) : ∃ j, g = dcell (xp c) (xr j) :=
  let ⟨j, hj⟩ := sum_pos_ex h; ⟨j, tallyAt_pos hj⟩
/-- the forwards' to the y-neighbour's. -/
theorem yO_pos {c : Dev nD} {n : ℕ} {g : GSem nD τ sig} {u : Unit} (h : 0 < yO c n g u) : ∃ j, g = dcell (yp c) (yr j) :=
  let ⟨j, hj⟩ := sum_pos_ex h; ⟨j, tallyAt_pos hj⟩

/-- The levels: a wait is for a cell below all that the waiter still owes. -/
def L (g : GSem nD τ sig) : Finset Unit := if g.1.2 = .tc then {()} else ∅
@[inherit_doc L]
def lvOf : SemLoc sig → ℕ
  | .reg _ => 1
  | .dma q => match dec q with
    | some (.inr (.inl _)) => 2
    | some (.inr (.inr (.inr _))) => 3
    | _ => 0
@[inherit_doc L]
def lv (g : GSem nD τ sig) (_ : Unit) : ℕ := lvOf g.2

/-- Other processors have no cell that anyone waits on; -/
theorem L_of_ne (g : GSem nD τ sig) (h : g.1.2 ≠ .tc) : L g = ∅ := if_neg h
/-- on the TensorCore every semaphore has its level: -/
theorem L_tc (c : Dev nD) (sm : SemLoc sig) : L ((c : Thread nD τ), sm) = {()} := if_pos rfl
/-- the x-receipts' is 2, -/
theorem lv_xr (c : Dev nD) (j : Fin 10) : lv (dcell c (xr j)) () = 2 := by
  show (match dec (dmaNo (xr j)) with | some (.inr (.inl _)) => 2 | some (.inr (.inr (.inr _))) => 3 | _ => 0) = _
  rw [dec_dmaNo]
/-- the y-receipts' 3. -/
theorem lv_yr (c : Dev nD) (j : Fin 6) : lv (dcell c (yr j)) () = 3 := by
  show (match dec (dmaNo (yr j)) with | some (.inr (.inl _)) => 2 | some (.inr (.inr (.inr _))) => 3 | _ => 0) = _
  rw [dec_dmaNo]

omit [FloatOps F] in
/-- A wait is allowed when its cell's level is at most `n` and all that is owed lies above `n` on some core. -/
theorem mayWait_of (c : Dev nD) (sm : SemLoc sig) (O : CellTallies nD τ sig Unit) (n : ℕ) (hs : lvOf sm ≤ n)
    (hO : ∀ g u, 0 < O g u → (∃ d sm', g = (((d : Dev nD) : Thread nD τ), sm')) ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨d, sm', rfl⟩, -⟩ := hO g u hg
      rw [L_tc]; exact Finset.mem_singleton_self _)
    (fun p hp => by rw [Finset.mem_singleton.mp hp]; exact hs)
    (fun g u hg => (hO g u hg).2)

/-- All that the forwards owe lies above the x-receipts; -/
theorem above_y (c : Dev nD) (n : ℕ) (g : GSem nD τ sig) (u : Unit) (h : 0 < yO c n g u) :
    (∃ d sm', g = (((d : Dev nD) : Thread nD τ), sm')) ∧ 2 < lv g u := by
  obtain ⟨j, rfl⟩ := yO_pos h
  exact ⟨⟨_, _, rfl⟩, by rw [show lv _ u = 3 from lv_yr _ j]; decide⟩
/-- all that sends and forwards owe, above the barrier; -/
theorem above_xy (c : Dev nD) (n n' : ℕ) (g : GSem nD τ sig) (u : Unit) (h : 0 < (xO c n + yO c n') g u) :
    (∃ d sm', g = (((d : Dev nD) : Thread nD τ), sm')) ∧ 1 < lv g u := by
  rcases add_pos_or h with h | h
  · obtain ⟨j, rfl⟩ := xO_pos h
    exact ⟨⟨_, _, rfl⟩, by rw [show lv _ u = 2 from lv_xr _ j]; decide⟩
  · exact ⟨(above_y c n' g u h).1, lt_trans (by decide) (above_y c n' g u h).2⟩
/-- all that is owed at the start, above the staging. -/
theorem above_O₀ (c : Dev nD) (g : GSem nD τ sig) (u : Unit) (h : 0 < O₀ c g u) :
    (∃ d sm', g = (((d : Dev nD) : Thread nD τ), sm')) ∧ 0 < lv g u := by
  rcases add_pos_or h with h | h
  · rcases add_pos_or h with h | h
    · exact ⟨(above_xy c _ _ g u h).1, lt_trans (by decide) (above_xy c _ _ g u h).2⟩
    · rw [tallyAt_pos h]; exact ⟨⟨_, _, rfl⟩, Nat.one_pos⟩
  · rw [tallyAt_pos h]; exact ⟨⟨_, _, rfl⟩, Nat.one_pos⟩

omit [FloatOps F] in
/-- Who owes nothing may wait. -/
theorem mayWait_zero (c : Dev nD) (sm : SemLoc sig) : (levAts L lv : sProp 𝕄) ⊢ MayWait (c : Thread nD τ) sm () 0 := by
  rw [MayWait_zero]; iintro -; iempintro

/-- All that any device may open or look up at any time: every cell's invariant, that every cell has
    reached its round, and the levels. -/
def records (K : Dev nD × CK → ℕ) : sProp 𝕄 :=
  iprop((bigSep Finset.univ fun p : Dev nD × CK => cellInv ER (Rd X) (K p) (kcell p))
    ∗ (bigSep Finset.univ fun p : Dev nD × CK => reached ER (kcell p) 0) ∗ levAts L lv)

instance records_persistent (K : Dev nD × CK → ℕ) : BI.Persistent (records X K) := by unfold records; infer_instance

/-- The records hold every cell's invariant, -/
theorem records_inv (K : Dev nD × CK → ℕ) (p : Dev nD × CK) : records X K ⊢ cellInv ER (Rd X) (K p) (kcell p) := by
  unfold records
  exact sep_elim_left.trans (bigSep_elim (Finset.mem_univ p))
/-- that it has reached its round, -/
theorem records_reached (K : Dev nD × CK → ℕ) (p : Dev nD × CK) : records X K ⊢ (reached ER (kcell p) 0 : sProp 𝕄) := by
  unfold records
  exact sep_elim_right.trans (sep_elim_left.trans (bigSep_elim (Finset.mem_univ p)))
/-- and the levels. -/
theorem records_lev (K : Dev nD × CK → ℕ) : records X K ⊢ (levAts L lv : sProp 𝕄) := by
  unfold records
  iintro ⟨-, -, #H⟩
  iexact H

end Cert.KernelIdeal.Exch

end
-- ==== Proof.KernelIdeal.Steps.lean ====
/- One lemma per phase of the kernel's body: the barrier, a chunk's send, the own half's copy, a wait,
   a wait followed by a forward. Each says how one turn of its phase moves the device's resources. -/
module

public import proofs.«01_k».proof.Proof.KernelIdeal.Sched

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family's members from one on, and below one -/

/-- The members from number `n` on; -/
def ge {J : ℕ} (n : ℕ) (Φ : Fin J → sProp 𝕄) : sProp 𝕄 := bigSep (Finset.univ.filter fun j : Fin J => n ≤ j.val) Φ
/-- those below it. -/
def lt {J : ℕ} (n : ℕ) (Φ : Fin J → sProp 𝕄) : sProp 𝕄 := bigSep (Finset.univ.filter fun j : Fin J => j.val < n) Φ

section Families
variable {J : ℕ}

omit [FloatOps F] in
/-- One member moves out of those from `n` on; -/
theorem ge_step (Φ : Fin J → sProp 𝕄) (n : ℕ) (hn : n < J) : ge n Φ = iprop(Φ ⟨n, hn⟩ ∗ ge (n + 1) Φ) := by
  unfold ge; rw [filter_ge_succ hn, bigSep_insert (not_mem_filter_ge hn)]; rfl
omit [FloatOps F] in
/-- one moves in among those below. -/
theorem lt_step (Φ : Fin J → sProp 𝕄) (n : ℕ) (hn : n < J) : lt (n + 1) Φ = iprop(Φ ⟨n, hn⟩ ∗ lt n Φ) := by
  unfold lt
  rw [show (Finset.univ.filter fun j : Fin J => j.val < n + 1) = insert ⟨n, hn⟩ (Finset.univ.filter fun j : Fin J => j.val < n) by
    ext j; simp only [Finset.mem_filter, Finset.mem_univ, true_and, Finset.mem_insert, Fin.ext_iff]; omega,
    bigSep_insert (by simp)]
  rfl
omit [FloatOps F] in
/-- From 0 on are all, -/
theorem ge_zero (Φ : Fin J → sProp 𝕄) : ge 0 Φ = bigSep Finset.univ Φ := by unfold ge; congr 1; ext j; simp
omit [FloatOps F] in
/-- so are below the family's size; -/
theorem lt_all (Φ : Fin J → sProp 𝕄) : lt J Φ = bigSep Finset.univ Φ := by unfold lt; congr 1; ext j; simp
omit [FloatOps F] in
/-- from its size on there is none, -/
theorem ge_all (Φ : Fin J → sProp 𝕄) : ge J Φ = iprop(emp) := by
  unfold ge; rw [show (Finset.univ.filter fun j : Fin J => J ≤ j.val) = ∅ by ext j; simp, bigSep_empty]; rfl
omit [FloatOps F] in
/-- nor below 0. -/
theorem lt_zero (Φ : Fin J → sProp 𝕄) : lt 0 Φ = iprop(emp) := by
  unfold lt; rw [show (Finset.univ.filter fun j : Fin J => j.val < 0) = ∅ by ext j; simp, bigSep_empty]; rfl
end Families

/-! ## The steps -/

/-- No loop of the program needs a variant. -/
abbrev 𝒱₀ : Variants := Variants.none

/-- What `c` owes is `O`, whatever it has waited on. -/
def owesE (c : Dev nD) (O : CellTallies nD τ sig Unit) : sProp 𝕄 := iprop(∃ W, owes (c : Thread nD τ) O W)

variable (X : Dev nD → S512x1024.Idx → Elt F .bf16) (K : Dev nD × CK → ℕ) (c : Dev nD)

/-- To be allowed to wait once on a transfer's cell for its whole credit. -/
def ready (k : DK) : sProp 𝕄 := iprop(atPos ER (dcell c k) 0 ∅ 0 ∗ cred (tallyAt (dcell c k) () N))
/-- What such a wait leaves: the cell closed at zero, and its payload. -/
def waited (k : DK) : sProp 𝕄 := iprop(semVal (dcell c k) 0 ∗ pay X c k)

/-- What the send of chunk `j` to the x-neighbour takes: the chunk's rows of the send buffer and of the
    neighbour's result, and the tokens of the two payments it makes. -/
def sendRes (j : Fin 10) : sProp 𝕄 :=
  iprop((∃ f, sPts c (sRows (sRow c j) 32) f) ∗ oAny (F := F) (xp c) (xRow (xp c) j)
    ∗ dutyTok ER (dcell c (xs j)) 0 false ∗ dutyTok ER (dcell (xp c) (xr j)) 0 false)

/-- What the forward of chunk `j` to the y-neighbour takes beside the chunk. -/
def fwdRes (j : Fin 6) : sProp 𝕄 :=
  iprop(oAny (F := F) (yp c) (yRow (yp c) j)
    ∗ dutyTok ER (dcell c (ys j)) 0 false ∗ dutyTok ER (dcell (yp c) (yr j)) 0 false)

/-- Chunk `j` from the x-neighbour once it has come: kept, unless it was forwarded. -/
def came (j : Fin 10) : sProp 𝕄 :=
  iprop(semVal (dcell c (xr j)) 0 ∗ (if 6 ≤ j.val then pay X c (xr j) else iprop(emp)))

/-- The body's program on device `c` runs from what is held to the given end. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-- A wait on a transfer's cell: its counter is back at zero, the cell closed, and the payload is here. -/
theorem wp_waitK {Q : α → sProp 𝕄} (Fr : sProp 𝕄) (k : DK) (O : CellTallies nD τ sig Unit)
    (hO : (levAts L lv : sProp 𝕄) ⊢ MayWait (c : Thread nD τ) (osem k) () O)
    {q : DmaSem sig} (hq : q = dmaNo k) {sp sp' : Space} {s' : Shape} {e' : EltTy}
    {srcM : Memref sig .tc sp' s' e'} {dstM : Memref sig .tc sp S32x512 .bf16} {hsrc : srcM.view.WordExact} {hdst : dstM.view.WordExact}
    {kt : PUnit → Prog (TpuEff nD τ sig (Elt F) Λ₀ .tc) α}
    (h : iprop(records X K ∗ (owesE c O ∗ waited X c k) ∗ Fr) ⊢ WP c (kt ⟨⟩) Q) :
    iprop(records X K ∗ (owesE c O ∗ ready c k) ∗ Fr) ⊢ WP c (.op (.waitDma2 q srcM dstM hsrc hdst) kt) Q := by
  subst hq
  unfold owesE ready
  iintro ⟨#HR, ⟨⟨%W, HO⟩, HatK, Hcr⟩, HFr⟩
  ihave #Hinv := (records_inv X K (c, .inr k)) $$ HR
  ihave #Hlev := (records_lev X K) $$ HR
  iapply (Rounds.wp_wait_rest_token 𝒱₀ ER (Rd X) (c : Thread nD τ) none (κ := K (c, .inr k))
      (wpE_waitDma2_eq 𝒱₀ (c : Thread nD τ) none Set.univ) (Set.mem_univ _) () (O := O) (W := W) (R := 0) (m := 0) (T := ∅)
      (by rw [Nat.zero_add, expect_d]; exact credit dstM.view)) $$ [Hcr HO HatK]
  · isplitr; · iexact Hinv
    isplitl [Hcr]; · rw [credit]; iexact Hcr
    isplitl [HO]; · iexact HO
    isplitr; · iapply hO; iexact Hlev
    iexact HatK
  iintro ⟨HO, HatK, -, Hpay⟩
  ihave Hp := (Entails.of_eq (rest_d X c k)) $$ Hpay
  imod (Rounds.cell_close ER (Rd X) (Set.mem_univ (K (c, .inr k))) (fun h => h) (R := 0 + 1) (duties_later X (dcell c k))) $$ [HatK] with Hz
  · isplitr; · iexact Hinv
    iexact HatK
  iapply h
  isplitr; · iexact HR
  isplitr [HFr]
  · unfold owesE waited
    isplitl [HO]; · iexists _; iexact HO
    isplitl [Hz] <;> iassumption
  · iexact HFr

/-- The next wait of a row of them, what each leaves put in the shape `D`. -/
theorem wp_wait_next {Q : α → sProp 𝕄} (Fr : sProp 𝕄) {J : ℕ} (fam : Fin J → DK) (D : Fin J → sProp 𝕄) (n : ℕ) (hn : n < J) (O : CellTallies nD τ sig Unit)
    (hD : waited X c (fam ⟨n, hn⟩) ⊢ D ⟨n, hn⟩)
    (hO : (levAts L lv : sProp 𝕄) ⊢ MayWait (c : Thread nD τ) (osem (fam ⟨n, hn⟩)) () O)
    {q : DmaSem sig} (hq : q = dmaNo (fam ⟨n, hn⟩)) {sp sp' : Space} {s' : Shape} {e' : EltTy}
    {srcM : Memref sig .tc sp' s' e'} {dstM : Memref sig .tc sp S32x512 .bf16} {hsrc : srcM.view.WordExact} {hdst : dstM.view.WordExact}
    {kt : PUnit → Prog (TpuEff nD τ sig (Elt F) Λ₀ .tc) α}
    (h : iprop(records X K ∗ (owesE c O ∗ ge (n + 1) (fun j => ready c (fam j)) ∗ lt (n + 1) D) ∗ Fr) ⊢ WP c (kt ⟨⟩) Q) :
    iprop(records X K ∗ (owesE c O ∗ ge n (fun j => ready c (fam j)) ∗ lt n D) ∗ Fr)
      ⊢ WP c (.op (.waitDma2 q srcM dstM hsrc hdst) kt) Q := by
  rw [ge_step _ n hn]
  iintro ⟨#HR, ⟨HO, ⟨Hr, Hge⟩, Hlt⟩, HFr⟩
  iapply (wp_waitK X K c iprop((ge (n + 1) (fun j => ready c (fam j)) ∗ lt n D) ∗ Fr) (fam ⟨n, hn⟩) O hO hq (Q := Q) (kt := kt) ?_)
  rotate_left
  · isplitr; · iexact HR
    isplitl [HO Hr]
    · isplitl [HO] <;> iassumption
    isplitr [HFr]
    · isplitl [Hge] <;> iassumption
    · iexact HFr
  · refine BIBase.Entails.trans ?_ h
    rw [lt_step _ n hn]
    iintro ⟨#HR, ⟨HO, Hw⟩, ⟨Hge, Hlt⟩, HFr⟩
    isplitr; · iexact HR
    isplitr [HFr]
    · isplitl [HO]; · iexact HO
      isplitl [Hge]; · iexact Hge
      isplitl [Hw]; · iapply hD; iexact Hw
      iexact Hlt
    · iexact HFr

/-- A slice of the result's buffer of whole rows is those rows; -/
theorem pts_o (d : Dev nD) (o : ℕ) (off : Fin 2 → ℕ) (h : off = ![o, 0]) (inb e) (f : S1024x512.Idx → Elt F .bf16) :
    ((oM.slice (Rect.unit (s := S1024x512) off S32x512.size inb) e).view.loc (d : Thread nD τ)
        ↦[(oM.slice (Rect.unit (s := S1024x512) off S32x512.size inb) e).view.set]{fullShare} f)
      = oPts d (oRows o 32) f := by
  rw [oPts, ← set_o o 32 off h inb]
/-- of the send buffer, those. -/
theorem pts_s (d : Dev nD) (o : ℕ) (off : Fin 2 → ℕ) (h : off = ![o, 0]) (inb e) (f : S512x512.Idx → Elt F .bf16) :
    ((sM.slice (Rect.unit (s := S512x512) off S32x512.size inb) e).view.loc (d : Thread nD τ)
        ↦[(sM.slice (Rect.unit (s := S512x512) off S32x512.size inb) e).view.set]{fullShare} f)
      = sPts d (sRows o 32) f := by
  rw [sPts, ← set_s o 32 off h inb]

/-- What a forwarded chunk is once it has landed; -/
theorem landed_y (n : ℕ) (hn : n < 6) (o₁ o₂ : Fin 2 → ℕ) (h₁ : o₁ = ![xRow c n, 0]) (h₂ : o₂ = ![xRow c n, 0]) (inb₁ inb₂ e₁ e₂)
    (fd : S1024x512.Idx → Elt F .bf16) :
    ((oM.slice (Rect.unit (s := S1024x512) o₂ S32x512.size inb₂) e₂).view.loc ((yp c : Dev nD) : Thread nD τ)
        ↦[(oM.slice (Rect.unit (s := S1024x512) o₂ S32x512.size inb₂) e₂).view.set]{fullShare}
          ((oM.slice (Rect.unit (s := S1024x512) o₂ S32x512.size inb₂) e₂).view.write (Elt F) fd
            ((oM.slice (Rect.unit (s := S1024x512) o₁ S32x512.size inb₁) e₁).view.read (Elt F) (outC X c)) Finset.univ))
      ⊢ pay X (yp c) (yr ⟨n, hn⟩) := by
  refine (Entails.of_eq (pts_o (yp c) (xRow c n) o₂ h₂ inb₂ e₂ _)).trans ?_
  rw [pay, yRow_yp]
  exact Entails.of_eq (pointsTo_congr fun i hi => land_y X c n hn o₁ o₂ h₁ h₂ inb₁ inb₂ e₁ e₂ fd i hi)
/-- and one from the x-neighbour. -/
theorem landed_x (n : ℕ) (hn : n < 10) (o₁ o₂ : Fin 2 → ℕ) (h₁ : o₁ = ![sRow c n, 0]) (h₂ : o₂ = ![xRow (xp c) n, 0]) (inb₁ inb₂ e₁ e₂)
    (fd : S1024x512.Idx → Elt F .bf16) :
    ((oM.slice (Rect.unit (s := S1024x512) o₂ S32x512.size inb₂) e₂).view.loc ((xp c : Dev nD) : Thread nD τ)
        ↦[(oM.slice (Rect.unit (s := S1024x512) o₂ S32x512.size inb₂) e₂).view.set]{fullShare}
          ((oM.slice (Rect.unit (s := S1024x512) o₂ S32x512.size inb₂) e₂).view.write (Elt F) fd
            ((sM.slice (Rect.unit (s := S512x512) o₁ S32x512.size inb₁) e₁).view.read (Elt F) (sbC X c)) Finset.univ))
      ⊢ pay X (xp c) (xr ⟨n, hn⟩) := by
  refine (Entails.of_eq (pts_o (xp c) (xRow (xp c) n) o₂ h₂ inb₂ e₂ _)).trans ?_
  rw [pay]
  exact Entails.of_eq (pointsTo_congr fun i hi => land_x X c n hn o₁ o₂ h₁ h₂ inb₁ inb₂ e₁ e₂ fd i hi)

/-- A chunk's transfer to device `d`: the source goes to the send cell, the landed chunk to the
    receiver's, and the wait for the former is paid for. -/
theorem wp_sendK {Q : α → sProp 𝕄} (Fr : sProp 𝕄) (k₁ k₂ : DK) (d : Dev nD)
    {srcM dstM : Memref sig .tc .vmem S32x512 .bf16} {hsc hsrc hdst hty}
    (fs : Buf (Elt F) (srcM.view.loc (c : Thread nD τ))) (fd : Buf (Elt F) (dstM.view.loc (d : Thread nD τ)))
    (O₀ O : CellTallies nD τ sig Unit) (hO : O₀ = O + tallyAt (dcell d k₂) () N)
    (hp₁ : (srcM.view.loc (c : Thread nD τ) ↦[srcM.view.set]{fullShare} fs) ⊢ pay X c k₁)
    (hp₂ : (dstM.view.loc (d : Thread nD τ) ↦[dstM.view.set]{fullShare} (dstM.view.write (Elt F) fd (srcM.view.read (Elt F) fs) Finset.univ)) ⊢ pay X d k₂)
    {kt : PUnit → Prog (TpuEff nD τ sig (Elt F) Λ₀ .tc) α}
    (h : iprop(records X K ∗ (owesE c O ∗ cred (tallyAt (dcell c k₁) () N)) ∗ Fr) ⊢ WP c (kt ⟨⟩) Q) :
    iprop(records X K ∗ (owesE c O₀ ∗ (srcM.view.loc (c : Thread nD τ) ↦[srcM.view.set]{fullShare} fs)
        ∗ (dstM.view.loc (d : Thread nD τ) ↦[dstM.view.set]{fullShare} fd)
        ∗ dutyTok ER (dcell c k₁) 0 false ∗ dutyTok ER (dcell d k₂) 0 false) ∗ Fr)
      ⊢ WP c (.op (.enqueueDma srcM (.remote (Dev.tc d : Thread nD τ) dstM (.dma (dmaNo k₁)) hsc) (.dma (dmaNo k₂)) hsrc hdst hty) kt) Q := by
  unfold owesE
  iintro ⟨#HR, ⟨⟨%W, HO⟩, Hs, Hd, Ht₁, Ht₂⟩, HFr⟩
  ihave #Hi₁ := (records_inv X K (c, .inr k₁)) $$ HR
  ihave #Hi₂ := (records_inv X K (d, .inr k₂)) $$ HR
  ihave #Hc₁ := (records_reached X K (c, .inr k₁)) $$ HR
  ihave #Hc₂ := (records_reached X K (d, .inr k₂)) $$ HR
  iapply (Rounds.wp_send_pointsTo 𝒱₀ ER (Rd X) (c : Thread nD τ) none (κ₁ := K (c, .inr k₁)) (κ₂ := K (d, .inr k₂))
    (c' := (d : Thread nD τ)) (src := srcM) (dst := dstM) (sS := .dma (dmaNo k₁)) (sem := .dma (dmaNo k₂)) (r₁ := 0) (r₂ := 0) (d₁ := false) (d₂ := false) (fs := fs) (fd := fd)
    (by rw [duties_d]; exact Finset.mem_singleton_self _) (by rw [duties_d]; exact Finset.mem_singleton_self _)
    () () N (show dstM.view.dmaCredit = N from credit dstM.view) rfl rfl O hO (W := W)
    (by rw [payload_d]; exact hp₁) (by rw [payload_d]; exact hp₂)) $$ [HO Hs Hd Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hc₁
    isplitl [Ht₂]; · iexact Ht₂
    iexact Hc₂
  iintro ⟨Hcr, HO⟩
  iapply h
  isplitr; · iexact HR
  isplitr [HFr]
  · isplitl [HO]; · unfold owesE; iexists W; iexact HO
    iexact Hcr
  · iexact HFr

/-- The next wait on a chunk from the x-neighbour, and its forward to the y-neighbour. -/
theorem wp_fwd_next {Q : α → sProp 𝕄} (Fr : sProp 𝕄) (n : ℕ) (hn : n < 6)
    {q : DmaSem sig} (hq : q = dmaNo (xr ⟨n, by omega⟩)) {sp sp' : Space} {s' : Shape} {e' : EltTy}
    {srcM : Memref sig .tc sp' s' e'} {dstM : Memref sig .tc sp S32x512 .bf16} {hsrc : srcM.view.WordExact} {hdst : dstM.view.WordExact}
    (d : Dev nD) (hd : d = yp c) {qs qr : DmaSem sig} (hqs : qs = dmaNo (ys ⟨n, hn⟩)) (hqr : qr = dmaNo (yr ⟨n, hn⟩))
    (o₁ o₂ : Fin 2 → ℕ) (h₁ : o₁ = ![xRow c n, 0]) (h₂ : o₂ = ![xRow c n, 0]) {inb₁ inb₂ e₁ e₂} {hsc hsrc' hdst' hty}
    {kt : PUnit → Prog (TpuEff nD τ sig (Elt F) Λ₀ .tc) α}
    (h : iprop(records X K ∗ (owesE c (yO c (n + 1)) ∗ ge (n + 1) (fun j => ready c (xr j)) ∗ lt (n + 1) (came X c)
        ∗ ge (n + 1) (fwdRes c) ∗ lt (n + 1) (fun j : Fin 6 => cred (tallyAt (dcell c (ys j)) () N))) ∗ Fr) ⊢ WP c (kt ⟨⟩) Q) :
    iprop(records X K ∗ (owesE c (yO c n) ∗ ge n (fun j => ready c (xr j)) ∗ lt n (came X c)
        ∗ ge n (fwdRes c) ∗ lt n (fun j : Fin 6 => cred (tallyAt (dcell c (ys j)) () N))) ∗ Fr)
      ⊢ WP c (.op (.waitDma2 q srcM dstM hsrc hdst) fun _ =>
          .op (.enqueueDma (oM.slice (Rect.unit (s := S1024x512) o₁ S32x512.size inb₁) e₁)
            (.remote (Dev.tc d : Thread nD τ) (oM.slice (Rect.unit (s := S1024x512) o₂ S32x512.size inb₂) e₂) (.dma qs) hsc) (.dma qr) hsrc' hdst' hty) kt) Q := by
  subst hd hqs hqr
  rw [ge_step _ n (show n < 10 by omega), ge_step (fwdRes c) n hn]
  iintro ⟨#HR, ⟨HO, ⟨Hr, Hge⟩, Hlt, ⟨Hf, Hgf⟩, Hlc⟩, HFr⟩
  iapply (wp_waitK X K c (kt := _) iprop((ge (n + 1) (fun j => ready c (xr j)) ∗ lt n (came X c) ∗ (fwdRes c ⟨n, hn⟩ ∗ ge (n + 1) (fwdRes c))
    ∗ lt n (fun j : Fin 6 => cred (tallyAt (dcell c (ys j)) () N))) ∗ Fr) (xr ⟨n, by omega⟩) (yO c n)
    (mayWait_of c _ _ 2 (le_of_eq (lv_xr c ⟨n, by omega⟩)) (above_y c n)) hq (Q := Q) ?_)
  rotate_left
  · isplitr; · iexact HR
    isplitl [HO Hr]
    · isplitl [HO] <;> iassumption
    isplitr [HFr]
    · isplitl [Hge]; · iexact Hge
      isplitl [Hlt]; · iexact Hlt
      isplitl [Hf Hgf]
      · isplitl [Hf] <;> iassumption
      iexact Hlc
    · iexact HFr
  · unfold fwdRes waited oAny
    iintro ⟨#HR, ⟨HO, Hz, Hp⟩, ⟨Hge, Hlt, ⟨⟨⟨%fd, Hd⟩, Ht₁, Ht₂⟩, Hgf⟩, Hlc⟩, HFr⟩
    iapply (wp_sendK X K c iprop((ge (n + 1) (fun j => ready c (xr j)) ∗ (semVal (dcell c (xr ⟨n, by omega⟩)) 0 ∗ lt n (came X c)) ∗ ge (n + 1) (fwdRes c)
      ∗ lt n (fun j : Fin 6 => cred (tallyAt (dcell c (ys j)) () N))) ∗ Fr) (ys ⟨n, hn⟩) (yr ⟨n, hn⟩) (yp c)
      (srcM := oM.slice (Rect.unit (s := S1024x512) o₁ S32x512.size inb₁) e₁)
      (dstM := oM.slice (Rect.unit (s := S1024x512) o₂ S32x512.size inb₂) e₂) (outC X c) fd (yO c n) (yO c (n + 1))
      (yO_step c n hn)
      (Entails.of_eq (pts_o c (xRow c n) o₁ h₁ inb₁ e₁ _)) (landed_y X c n hn o₁ o₂ h₁ h₂ inb₁ inb₂ e₁ e₂ fd) ?_)
    rotate_left
    · isplitr; · iexact HR
      isplitl [HO Hp Hd Ht₁ Ht₂]
      · isplitl [HO]; · iexact HO
        isplitl [Hp]
        · iapply (Entails.of_eq ((show pay X c (xr ⟨n, by omega⟩) = oPts c (oRows (xRow c n) 32) (outC X c) from rfl).trans (pts_o c (xRow c n) o₁ h₁ inb₁ e₁ _).symm)); iexact Hp
        isplitl [Hd]
        · iapply (Entails.of_eq (pts_o (yp c) (xRow c n) o₂ h₂ inb₂ e₂ fd).symm); rw [yRow_yp]; iexact Hd
        isplitl [Ht₁] <;> iassumption
      isplitr [HFr]
      · isplitl [Hge]; · iexact Hge
        isplitl [Hz Hlt]; · isplitl [Hz] <;> iassumption
        isplitl [Hgf]; · unfold fwdRes oAny; iexact Hgf
        iexact Hlc
      · iexact HFr
    · refine BIBase.Entails.trans ?_ h
      rw [lt_step _ n (show n < 10 by omega), lt_step _ n hn]
      iintro ⟨#HR, ⟨HO, Hcr⟩, ⟨Hge, ⟨Hz, Hlt⟩, Hgf, Hlc⟩, HFr⟩
      isplitr; · iexact HR
      isplitr [HFr]
      · isplitl [HO]; · iexact HO
        isplitl [Hge]; · iexact Hge
        isplitl [Hz Hlt]
        · isplitl [Hz]
          · unfold came; isplitl [Hz]; · iexact Hz
            rw [if_neg (by show ¬ 6 ≤ n; omega)]; iempintro
          · iexact Hlt
        isplitl [Hgf]; · iexact Hgf
        isplitl [Hcr] <;> iassumption
      · iexact HFr

/-- A step that turns `A` into `B`, with a rest carried along. -/
theorem step_frame {A B W W' Fr : sProp 𝕄} (h : A ⊢ iprop((B -∗ W) -∗ W')) (hk : iprop(B ∗ Fr) ⊢ W) : iprop(A ∗ Fr) ⊢ W' := by
  iintro ⟨HA, HFr⟩
  iapply h $$ HA
  iintro HB
  iapply hk
  isplitl [HB] <;> iassumption

/-- A load of rows of the result's buffer, whose value isn't used, and the store of the argument's rows; -/
theorem wp_put_o {Q : α → sProp 𝕄} (Fr : sProp 𝕄) (o₁ o₂ : Fin 2 → ℕ) (h₁ : o₁ = ![0, px c * 512]) (h₂ : o₂ = ![px c * 512, 0])
    {inb₁ inb₂ hl hst hmk} (f : S1024x512.Idx → Elt F .bf16) {k : PUnit → Prog (TpuEff nD τ sig (Elt F) Λ₀ .tc) α}
    (hk : iprop(oPts c (oRows (px c * 512) 512) (outC X c) ∗ Fr) ⊢ WP c (k ⟨⟩) Q) :
    iprop(oPts c (oRows (px c * 512) 512) f ∗ Fr)
      ⊢ WP c (.op (.load oM (Rect.unit (s := S1024x512) o₂ S512x512.size inb₂).toLoadRect hl) fun _ =>
          .op (.store oM (Rect.unit (s := S1024x512) o₂ S512x512.size inb₂)
            (xM.view.readAt (Elt F) (Rect.unit (s := S512x1024) o₁ S512x512.size inb₁).toLoadRect (X c)) Finset.univ hst hmk) k) Q := by
  have hS := le_of_eq (set_o (px c * 512) 512 o₂ h₂ inb₂)
  refine step_frame (wp_load_rect 𝒱₀ (c : Thread nD τ) none Set.univ (m := oM) (r := Rect.unit (s := S1024x512) o₂ S512x512.size inb₂) (S := oRows (px c * 512) 512) (f := f) hS)
    (step_frame (wp_store 𝒱₀ (c : Thread nD τ) none Set.univ (m := oM) (r := Rect.unit (s := S1024x512) o₂ S512x512.size inb₂) (S := oRows (px c * 512) 512) (f := f) (Mk := Finset.univ)
      (by rw [View.setOn_univ]; exact hS)) ((sep_mono_left (Entails.of_eq ?_)).trans hk))
  exact pointsTo_congr fun i hi => store_o X c o₁ o₂ h₁ h₂ inb₁ inb₂ f i hi
/-- of the send buffer. -/
theorem wp_put_s {Q : α → sProp 𝕄} (Fr : sProp 𝕄) (o : ℕ) (o₁ o₂ : Fin 2 → ℕ) (h₁ : o₁ = ![o, (1 - px c) * 512]) (h₂ : o₂ = ![o, 0])
    {inb₁ inb₂ hl hst hmk} (f : S512x512.Idx → Elt F .bf16) {k : PUnit → Prog (TpuEff nD τ sig (Elt F) Λ₀ .tc) α}
    (hk : iprop(sPts c (sRows o 32) (sbC X c) ∗ Fr) ⊢ WP c (k ⟨⟩) Q) :
    iprop(sPts c (sRows o 32) f ∗ Fr)
      ⊢ WP c (.op (.load sM (Rect.unit (s := S512x512) o₂ S32x512.size inb₂).toLoadRect hl) fun _ =>
          .op (.store sM (Rect.unit (s := S512x512) o₂ S32x512.size inb₂)
            (xM.view.readAt (Elt F) (Rect.unit (s := S512x1024) o₁ S32x512.size inb₁).toLoadRect (X c)) Finset.univ hst hmk) k) Q := by
  have hS := le_of_eq (set_s o 32 o₂ h₂ inb₂)
  refine step_frame (wp_load_rect 𝒱₀ (c : Thread nD τ) none Set.univ (m := sM) (r := Rect.unit (s := S512x512) o₂ S32x512.size inb₂) (S := sRows o 32) (f := f) hS)
    (step_frame (wp_store 𝒱₀ (c : Thread nD τ) none Set.univ (m := sM) (r := Rect.unit (s := S512x512) o₂ S32x512.size inb₂) (S := sRows o 32) (f := f) (Mk := Finset.univ)
      (by rw [View.setOn_univ]; exact hS)) ((sep_mono_left (Entails.of_eq ?_)).trans hk))
  exact pointsTo_congr fun i hi => store_s X c o o₁ o₂ h₁ h₂ inb₁ inb₂ f i hi

/-- The next chunk: loaded, stored into the send buffer, sent to the x-neighbour. -/
theorem wp_chunk_next {Q : α → sProp 𝕄} (Fr : sProp 𝕄) (O : CellTallies nD τ sig Unit) (n : ℕ) (hn : n < 10)
    (d : Dev nD) (hd : d = xp c) {qs qr : DmaSem sig} (hqs : qs = dmaNo (xs ⟨n, hn⟩)) (hqr : qr = dmaNo (xr ⟨n, hn⟩))
    (o₁ o₂ o₃ o₄ : Fin 2 → ℕ) (h₁ : o₁ = ![sRow c n, (1 - px c) * 512]) (h₂ : o₂ = ![sRow c n, 0])
    (h₃ : o₃ = ![xRow (xp c) n, 0]) (h₄ : o₄ = ![sRow c n, 0])
    (pv : Vec F S32x512 .bf16 → Vec F S32x512 .bf16) (hpv : ∀ v, pv v = v)
    {inb₁ inb₂ inb₃ inb₄ e₃ e₄} {hl₁ hl₂ hst hmk hsc hsrc hdst hty}
    {kt : PUnit → Prog (TpuEff nD τ sig (Elt F) Λ₀ .tc) α}
    (h : iprop(records X K ∗ (xPts X c ∗ owesE c (xO c (n + 1) + O) ∗ ge (n + 1) (sendRes c)
        ∗ lt (n + 1) (fun j : Fin 10 => cred (tallyAt (dcell c (xs j)) () N))) ∗ Fr) ⊢ WP c (kt ⟨⟩) Q) :
    iprop(records X K ∗ (xPts X c ∗ owesE c (xO c n + O) ∗ ge n (sendRes c)
        ∗ lt n (fun j : Fin 10 => cred (tallyAt (dcell c (xs j)) () N))) ∗ Fr)
      ⊢ WP c (.op (.load xM (Rect.unit (s := S512x1024) o₁ S32x512.size inb₁).toLoadRect hl₁) fun v =>
          .op (.load sM (Rect.unit (s := S512x512) o₂ S32x512.size inb₂).toLoadRect hl₂) fun _ =>
          .op (.store sM (Rect.unit (s := S512x512) o₂ S32x512.size inb₂) (pv v) Finset.univ hst hmk) fun _ =>
          .op (.enqueueDma (sM.slice (Rect.unit (s := S512x512) o₄ S32x512.size inb₄) e₄)
            (.remote (Dev.tc d : Thread nD τ) (oM.slice (Rect.unit (s := S1024x512) o₃ S32x512.size inb₃) e₃) (.dma qs) hsc) (.dma qr) hsrc hdst hty) kt) Q := by
  subst hd hqs hqr
  obtain rfl : pv = fun v => v := funext hpv
  have hres : sendRes (F := F) c ⟨n, hn⟩ = iprop((∃ f, sPts c (sRows (sRow c n) 32) f) ∗ (∃ f, oPts (xp c) (oRows (xRow (xp c) n) 32) f)
    ∗ dutyTok ER (dcell c (xs ⟨n, hn⟩)) 0 false ∗ dutyTok ER (dcell (xp c) (xr ⟨n, hn⟩)) 0 false) := rfl
  rw [ge_step _ n hn, hres]
  iintro ⟨#HR, ⟨Hx, HO, ⟨Hres, Hge⟩, Hlt⟩, HFr⟩
  unfold xPts
  iapply (wp_load 𝒱₀ (c : Thread nD τ) none Set.univ (m := xM) (Finset.subset_univ _)) $$ Hx; iintro Hx
  icases Hres with ⟨⟨%f, Hs⟩, ⟨%fd, Hd⟩, Ht₁, Ht₂⟩
  iapply (wp_put_s X c iprop(records X K ∗ (((c : Thread nD τ).loc cc0_stg0_0) ↦{fullShare} X c) ∗ owesE c (xO c n + O) ∗ oPts (xp c) (oRows (xRow (xp c) n) 32) fd
      ∗ dutyTok ER (dcell c (xs ⟨n, hn⟩)) 0 false ∗ dutyTok ER (dcell (xp c) (xr ⟨n, hn⟩)) 0 false ∗ ge (n + 1) (sendRes c)
      ∗ lt n (fun j : Fin 10 => cred (tallyAt (dcell c (xs j)) () N)) ∗ Fr) (sRow c n) o₁ o₂ h₁ h₂ f ?_)
  rotate_left
  · isplitl [Hs]; · iexact Hs
    isplitr; · iexact HR
    isplitl [Hx]; · iexact Hx
    isplitl [HO]; · iexact HO
    isplitl [Hd]; · iexact Hd
    isplitl [Ht₁]; · iexact Ht₁
    isplitl [Ht₂]; · iexact Ht₂
    isplitl [Hge]; · iexact Hge
    isplitl [Hlt] <;> iassumption
  · iintro ⟨Hs, #HR, Hx, HO, Hd, Ht₁, Ht₂, Hge, Hlt, HFr⟩
    iapply (wp_sendK X K c iprop((xPts X c ∗ ge (n + 1) (sendRes c) ∗ lt n (fun j : Fin 10 => cred (tallyAt (dcell c (xs j)) () N))) ∗ Fr)
      (xs ⟨n, hn⟩) (xr ⟨n, hn⟩) (xp c) (srcM := sM.slice (Rect.unit (s := S512x512) o₄ S32x512.size inb₄) e₄)
      (dstM := oM.slice (Rect.unit (s := S1024x512) o₃ S32x512.size inb₃) e₃) (sbC X c) fd (xO c n + O) (xO c (n + 1) + O)
      (by rw [xO_step c n hn, add_right_comm])
      (Entails.of_eq (pts_s c (sRow c n) o₄ h₄ inb₄ e₄ _)) (landed_x X c n hn o₄ o₃ h₄ h₃ inb₄ inb₃ e₄ e₃ fd) ?_)
    rotate_left
    · isplitr; · iexact HR
      isplitl [HO Hs Hd Ht₁ Ht₂]
      · isplitl [HO]; · iexact HO
        isplitl [Hs]
        · iapply (Entails.of_eq (pts_s c (sRow c n) o₄ h₄ inb₄ e₄ (sbC X c)).symm); iexact Hs
        isplitl [Hd]
        · iapply (Entails.of_eq (pts_o (xp c) (xRow (xp c) n) o₃ h₃ inb₃ e₃ fd).symm); iexact Hd
        isplitl [Ht₁] <;> iassumption
      isplitr [HFr]
      · isplitl [Hx]; · unfold xPts; iexact Hx
        isplitl [Hge]; · iexact Hge
        iexact Hlt
      · iexact HFr
    · refine BIBase.Entails.trans ?_ h
      rw [lt_step _ n hn]
      iintro ⟨#HR, ⟨HO, Hcr⟩, ⟨Hx, Hge, Hlt⟩, HFr⟩
      isplitr; · iexact HR
      isplitr [HFr]
      · isplitl [Hx]; · iexact Hx
        isplitl [HO]; · iexact HO
        isplitl [Hge]; · iexact Hge
        isplitl [Hcr] <;> iassumption
      · iexact HFr

/-- The own half: loaded and stored into the result. -/
theorem wp_own {Q : α → sProp 𝕄} (Fr : sProp 𝕄)
    (o₁ o₂ : Fin 2 → ℕ) (h₁ : o₁ = ![0, px c * 512]) (h₂ : o₂ = ![px c * 512, 0])
    (pv : Vec F S512x512 .bf16 → Vec F S512x512 .bf16) (hpv : ∀ v, pv v = v)
    {inb₁ inb₂} {hl₁ hl₂ hst hmk} {kt : PUnit → Prog (TpuEff nD τ sig (Elt F) Λ₀ .tc) α}
    (h : iprop(records X K ∗ (xPts X c ∗ oPts c (oRows (px c * 512) 512) (outC X c)) ∗ Fr) ⊢ WP c (kt ⟨⟩) Q) :
    iprop(records X K ∗ (xPts X c ∗ ∃ f, oPts c (oRows (px c * 512) 512) f) ∗ Fr)
      ⊢ WP c (.op (.load xM (Rect.unit (s := S512x1024) o₁ S512x512.size inb₁).toLoadRect hl₁) fun v =>
          .op (.load oM (Rect.unit (s := S1024x512) o₂ S512x512.size inb₂).toLoadRect hl₂) fun _ =>
          .op (.store oM (Rect.unit (s := S1024x512) o₂ S512x512.size inb₂) (pv v) Finset.univ hst hmk) kt) Q := by
  obtain rfl : pv = fun v => v := funext hpv
  iintro ⟨#HR, ⟨Hx, ⟨%f, Ho⟩⟩, HFr⟩
  unfold xPts
  iapply (wp_load 𝒱₀ (c : Thread nD τ) none Set.univ (m := xM) (Finset.subset_univ _)) $$ Hx; iintro Hx
  iapply (wp_put_o X c iprop(records X K ∗ (((c : Thread nD τ).loc cc0_stg0_0) ↦{fullShare} X c) ∗ Fr) o₁ o₂ h₁ h₂ f ?_)
  rotate_left
  · isplitl [Ho]; · iexact Ho
    isplitr; · iexact HR
    isplitl [Hx] <;> iassumption
  · refine BIBase.Entails.trans ?_ h
    iintro ⟨Ho, #HR, Hx, HFr⟩
    isplitr; · iexact HR
    isplitr [HFr]
    · isplitl [Hx]; · unfold xPts; iexact Hx
      iexact Ho
    · iexact HFr

/-- What the signal to the x-neighbour hands over; -/
theorem give_x : (bigSep Finset.univ fun j : Fin 10 => oAny (F := F) c (xRow c j)) ⊢ (Rd X).payload (barCell (xp c)) 0 false := by
  show _ ⊢ barX (F := F) (xp c)
  unfold barX; rw [xp_xp]
/-- and the one to the y-neighbour. -/
theorem give_y : (bigSep Finset.univ fun j : Fin 6 => oAny (F := F) c (yRow c j)) ⊢ (Rd X).payload (barCell (yp c)) 0 true := by
  show _ ⊢ barY (F := F) (yp c)
  unfold barY; rw [yp_yp]

/-- The barrier: a unit to each neighbour, with the rows of the result that it will write; then the wait
    for both neighbours', which brings the rows of theirs that this device will write. -/
theorem wp_barrier {Q : α → sProp 𝕄} (Fr : sProp 𝕄) (d₁ d₂ : Dev nD) (hd₁ : d₁ = xp c) (hd₂ : d₂ = yp c)
    {kt : PUnit → Prog (TpuEff nD τ sig (Elt F) Λ₀ .tc) α}
    (h : iprop(records X K ∗ (owesE c (xO c 0 + yO c 0) ∗ semVal (barCell c) 0 ∗ barX (F := F) c ∗ barY (F := F) c) ∗ Fr) ⊢ WP c (kt ⟨⟩) Q) :
    iprop(records X K ∗ (owesE c (O₀ c) ∗ dutyTok ER (barCell (xp c)) 0 false ∗ dutyTok ER (barCell (yp c)) 0 true
        ∗ atPos ER (barCell c) 0 ∅ 0 ∗ cred (tallyAt (barCell c) () 2)
        ∗ (bigSep Finset.univ fun j : Fin 10 => oAny (F := F) c (xRow c j)) ∗ (bigSep Finset.univ fun j : Fin 6 => oAny (F := F) c (yRow c j))) ∗ Fr)
      ⊢ WP c (.op (.semSignal (Dev.tc d₁ : Thread nD τ) barS (1#32).toNat) fun _ =>
          .op (.semSignal (Dev.tc d₂ : Thread nD τ) barS (1#32).toNat) fun _ => .op (.semWait barS (2#32).toNat) kt) Q := by
  subst hd₁ hd₂
  unfold owesE O₀
  iintro ⟨#HR, ⟨⟨%W, HO⟩, Ht₁, Ht₂, Hat, Hcr, Hx, Hy⟩, HFr⟩
  ihave #Hi := (records_inv X K (c, .inl ())) $$ HR
  ihave #Hi₁ := (records_inv X K (xp c, .inl ())) $$ HR
  ihave #Hi₂ := (records_inv X K (yp c, .inl ())) $$ HR
  ihave #Hc₁ := (records_reached X K (xp c, .inl ())) $$ HR
  ihave #Hc₂ := (records_reached X K (yp c, .inl ())) $$ HR
  ihave #Hlev := (records_lev X K) $$ HR
  iapply (Rounds.wp_signal 𝒱₀ ER (Rd X) (c : Thread nD τ) none (dst := (xp c : Thread nD τ)) (κ := K (xp c, .inl ()))
      (r := 0) (d := false) (by rw [duties_bar]; exact Finset.mem_univ _) rfl () (xO c 0 + yO c 0 + tallyAt (barCell (yp c)) () 1) rfl)
    $$ [HO Ht₁ Hx]
  · isplitr; · iexact Hi₁
    isplitl [HO]; · iexact HO
    isplitl [Ht₁]; · iexact Ht₁
    isplitl [Hx]
    · iapply (give_x X c); iexact Hx
    iexact Hc₁
  iintro HO
  iapply (Rounds.wp_signal 𝒱₀ ER (Rd X) (c : Thread nD τ) none (dst := (yp c : Thread nD τ)) (κ := K (yp c, .inl ()))
      (r := 0) (d := true) (by rw [duties_bar]; exact Finset.mem_univ _) rfl () (xO c 0 + yO c 0) rfl)
    $$ [HO Ht₂ Hy]
  · isplitr; · iexact Hi₂
    isplitl [HO]; · iexact HO
    isplitl [Ht₂]; · iexact Ht₂
    isplitl [Hy]
    · iapply (give_y X c); iexact Hy
    iexact Hc₂
  iintro HO
  iapply (Rounds.wp_wait_rest_token 𝒱₀ ER (Rd X) (c : Thread nD τ) none (κ := K (c, .inl ()))
      (wpE_semWait_eq 𝒱₀ (c : Thread nD τ) none Set.univ) (Set.mem_univ _) () (O := xO c 0 + yO c 0) (W := W) (R := 0) (m := 0) (T := ∅)
      (by rw [expect_bar]; rfl)) $$ [Hcr HO Hat]
  · isplitr; · iexact Hi
    isplitl [Hcr]; · iexact Hcr
    isplitl [HO]; · iexact HO
    isplitr; · iapply (mayWait_of c (.reg barS) _ 1 (Nat.le_refl 1) (above_xy c 0 0)); iexact Hlev
    iexact Hat
  iintro ⟨HO, Hat, -, Hpay⟩
  ihave Hp := (Entails.of_eq (rest_bar X c)) $$ Hpay
  imod (Rounds.cell_close ER (Rd X) (Set.mem_univ (K (c, .inl ()))) (fun h => h) (R := 0 + 1) (duties_later X (barCell c))) $$ [Hat] with Hz
  · isplitr; · iexact Hi
    iexact Hat
  iapply h
  isplitr; · iexact HR
  isplitr [HFr]
  · isplitl [HO]; · unfold owesE; iexists _; iexact HO
    isplitl [Hz]; · iexact Hz
    iexact Hp
  · iexact HFr

end Cert.KernelIdeal.Exch

end
-- ==== Proof.KernelIdeal.Body.lean ====
/- The kernel's body on one device, step by step: from the resources the launch gives it to the exchanged
   result. Both places of the device along the first mesh axis go through the same phases. -/
module

public import proofs.«01_k».proof.Proof.KernelIdeal.Steps
public import Idealize.ShloMosaic.Lib.Pipeline.Value

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x1024.Idx → Elt F .bf16) (K : Dev nD × CK → ℕ) (c : Dev nD)

/-! ## What is held between the phases -/

/-- The rows of the send buffer that no chunk uses. -/
def sRest : Finset S512x512.Idx := Finset.univ \ Finset.univ.biUnion fun j : Fin 10 => sRows (sRow c j) 32

/-- Held from the start to the end: those rows, -/
def spare : sProp 𝕄 := iprop(∃ f, sPts (F := F) c (sRest c) f)
/-- and, after the barrier, its counter at zero with them. -/
def spare' : sProp 𝕄 := iprop(semVal (barCell c) 0 ∗ spare (F := F) c)

/-- The own half's rows of the result, yet to be written. -/
def ownAny : sProp 𝕄 := iprop(∃ f, oPts (F := F) c (oRows (px c * 512) 512) f)

/-- The turns to wait on a family of cells. -/
def turns {J : ℕ} (fam : Fin J → DK) : sProp 𝕄 := bigSep Finset.univ fun j => atPos ER (dcell c (fam j)) 0 ∅ 0
/-- The same with the credits: the waits can be made. -/
def readies {J : ℕ} (fam : Fin J → DK) : sProp 𝕄 := bigSep Finset.univ fun j => ready (F := F) c (fam j)
/-- The tokens of a family of payments on device `d`. -/
def toks {J : ℕ} (d : Dev nD) (fam : Fin J → DK) : sProp 𝕄 := bigSep Finset.univ fun j => dutyTok ER (dcell d (fam j)) 0 false

/-- Beside what the barrier takes. -/
def rest₀ : sProp 𝕄 :=
  iprop(xPts X c ∗ (bigSep Finset.univ fun j : Fin 10 => iprop(∃ f, sPts (F := F) c (sRows (sRow c j) 32) f))
    ∗ toks (F := F) c xs ∗ toks (F := F) (xp c) xr ∗ toks (F := F) c ys ∗ toks (F := F) (yp c) yr
    ∗ ownAny (F := F) c ∗ spare (F := F) c ∗ turns (F := F) c xs ∗ turns (F := F) c ys ∗ readies (F := F) c xr ∗ readies (F := F) c yr)
/-- What the barrier takes. -/
def toBar : sProp 𝕄 :=
  iprop(owesE (F := F) c (O₀ c) ∗ dutyTok ER (barCell (xp c)) 0 false ∗ dutyTok ER (barCell (yp c)) 0 true
    ∗ atPos ER (barCell c) 0 ∅ 0 ∗ cred (tallyAt (barCell c) () 2)
    ∗ (bigSep Finset.univ fun j : Fin 10 => oAny (F := F) c (xRow c j)) ∗ (bigSep Finset.univ fun j : Fin 6 => oAny (F := F) c (yRow c j)))

/-- Beside what the sends take. -/
def rest₁ : sProp 𝕄 :=
  iprop((bigSep Finset.univ (fwdRes (F := F) c)) ∗ ownAny (F := F) c ∗ spare' (F := F) c
    ∗ turns (F := F) c xs ∗ turns (F := F) c ys ∗ readies (F := F) c xr ∗ readies (F := F) c yr)
/-- Beside what the own half takes. -/
def rest₂ : sProp 𝕄 :=
  iprop(owesE (F := F) c (yO c 0) ∗ (bigSep Finset.univ (fwdRes (F := F) c)) ∗ spare' (F := F) c
    ∗ readies (F := F) c xs ∗ turns (F := F) c ys ∗ readies (F := F) c xr ∗ readies (F := F) c yr)
/-- The argument and the own half of the result, both as they stay. -/
def mine : sProp 𝕄 := iprop(xPts X c ∗ oPts c (oRows (px c * 512) 512) (outC X c))
/-- Beside what the forwards take. -/
def rest₃ : sProp 𝕄 :=
  iprop(mine X c ∗ spare' (F := F) c ∗ readies (F := F) c xs ∗ turns (F := F) c ys ∗ readies (F := F) c yr)
/-- Beside what the last waits for the x-neighbour's chunks take. -/
def rest₄ : sProp 𝕄 :=
  iprop(mine X c ∗ spare' (F := F) c ∗ readies (F := F) c xs ∗ readies (F := F) c ys ∗ readies (F := F) c yr)

/-- A family of cells after its waits. -/
def closed {J : ℕ} (fam : Fin J → DK) : sProp 𝕄 := bigSep Finset.univ fun j => waited X c (fam j)
/-- The x-neighbour's chunks after the forwards. -/
def allCame : sProp 𝕄 := bigSep Finset.univ (came X c)

/-- What is held at the end. -/
def done : sProp 𝕄 :=
  iprop(owesE (F := F) c 0 ∗ mine X c ∗ spare' (F := F) c ∗ allCame X c ∗ closed X c yr ∗ closed X c xs ∗ closed X c ys)

/-! ## From phase to phase -/

/-- What the sends take together; -/
theorem all_sends : bigSep Finset.univ (sendRes (F := F) c)
    = iprop((bigSep Finset.univ fun j : Fin 10 => iprop(∃ f, sPts (F := F) c (sRows (sRow c j) 32) f))
      ∗ (bigSep Finset.univ fun j : Fin 10 => oAny (F := F) (xp c) (xRow (xp c) j))
      ∗ (bigSep Finset.univ fun j : Fin 10 => dutyTok ER (dcell c (xs j)) 0 false)
      ∗ bigSep Finset.univ fun j : Fin 10 => dutyTok ER (dcell (xp c) (xr j)) 0 false) := by
  rw [← bigSep_sep', ← bigSep_sep', ← bigSep_sep']; rfl
/-- and the forwards. -/
theorem all_forwards : bigSep Finset.univ (fwdRes (F := F) c)
    = iprop((bigSep Finset.univ fun j : Fin 6 => oAny (F := F) (yp c) (yRow (yp c) j))
      ∗ (bigSep Finset.univ fun j : Fin 6 => dutyTok ER (dcell c (ys j)) 0 false)
      ∗ bigSep Finset.univ fun j : Fin 6 => dutyTok ER (dcell (yp c) (yr j)) 0 false) := by
  rw [← bigSep_sep', ← bigSep_sep']; rfl

/-- What the barrier leaves is what the sends begin with, and the rest of the body. -/
theorem to_sends :
    iprop(records X K ∗ (owesE c (xO c 0 + yO c 0) ∗ semVal (barCell c) 0 ∗ barX (F := F) c ∗ barY (F := F) c) ∗ rest₀ X c)
      ⊢ iprop(records X K ∗ (xPts X c ∗ owesE c (xO c 0 + yO c 0) ∗ ge 0 (sendRes c)
        ∗ lt 0 (fun j : Fin 10 => cred (tallyAt (dcell c (xs j)) () N))) ∗ rest₁ (F := F) c) := by
  rw [ge_zero, lt_zero]
  unfold rest₀ rest₁ spare' toks barX barY
  rw [all_sends, all_forwards]
  iintro ⟨#HR, ⟨HO, Hz, HbX, HbY⟩, Hx, Hs, Ht₁, Ht₂, Ht₃, Ht₄, Ho, Hsp, Ha₁, Ha₂, Hr₁, Hr₂⟩
  isplitr; · iexact HR
  isplitl [HO HbX Hx Hs Ht₁ Ht₂]
  · isplitl [Hx]; · iexact Hx
    isplitl [HO]; · iexact HO
    isplitl
    · isplitl [Hs]; · iexact Hs
      isplitl [HbX]; · iexact HbX
      isplitl [Ht₁] <;> iassumption
    · iempintro
  isplitl [HbY Ht₃ Ht₄]
  · isplitl [HbY]; · iexact HbY
    isplitl [Ht₃] <;> iassumption
  isplitl [Ho]; · iexact Ho
  isplitl [Hz Hsp]; · isplitl [Hz] <;> iassumption
  isplitl [Ha₁]; · iexact Ha₁
  isplitl [Ha₂]; · iexact Ha₂
  isplitl [Hr₁] <;> iassumption

/-- The turns on a family of cells, with a credit for each, are readiness to wait on them. -/
theorem to_readies {J : ℕ} (fam : Fin J → DK) :
    iprop(turns (F := F) c fam ∗ bigSep Finset.univ fun j => cred (tallyAt (dcell c (fam j)) () N)) ⊢ readies (F := F) c fam := by
  unfold turns readies
  rw [show (fun j => ready (F := F) c (fam j)) = fun j => iprop(atPos ER (dcell c (fam j)) 0 ∅ 0 ∗ cred (tallyAt (dcell c (fam j)) () N)) from rfl,
    bigSep_sep']

/-- After the ten sends: the own half can be written, and the rest is kept. -/
theorem to_own :
    iprop(records X K ∗ (xPts X c ∗ owesE c (xO c 10 + yO c 0) ∗ ge 10 (sendRes c)
        ∗ lt 10 (fun j : Fin 10 => cred (tallyAt (dcell c (xs j)) () N))) ∗ rest₁ (F := F) c)
      ⊢ iprop(records X K ∗ (xPts X c ∗ ∃ f, oPts c (oRows (px c * 512) 512) f) ∗ rest₂ (F := F) c) := by
  rw [ge_all, lt_all, xO_end, zero_add]
  unfold rest₁ rest₂
  iintro ⟨#HR, ⟨Hx, HO, -, Hcr⟩, Hf, Ho, Hsp, Ha₁, Ha₂, Hr₁, Hr₂⟩
  isplitr; · iexact HR
  isplitl [Hx Ho]
  · isplitl [Hx]; · iexact Hx
    unfold ownAny; iexact Ho
  isplitl [HO]; · iexact HO
  isplitl [Hf]; · iexact Hf
  isplitl [Hsp]; · iexact Hsp
  isplitl [Ha₁ Hcr]
  · iapply (to_readies c xs); isplitl [Ha₁] <;> iassumption
  isplitl [Ha₂]; · iexact Ha₂
  isplitl [Hr₁] <;> iassumption

/-- After the own half: the waits with their forwards can begin. -/
theorem to_forwards :
    iprop(records X K ∗ (xPts X c ∗ oPts c (oRows (px c * 512) 512) (outC X c)) ∗ rest₂ (F := F) c)
      ⊢ iprop(records X K ∗ (owesE c (yO c 0) ∗ ge 0 (fun j => ready c (xr j)) ∗ lt 0 (came X c)
        ∗ ge 0 (fwdRes c) ∗ lt 0 (fun j : Fin 6 => cred (tallyAt (dcell c (ys j)) () N))) ∗ rest₃ X c) := by
  rw [ge_zero, ge_zero, lt_zero, lt_zero]
  unfold rest₂ rest₃ mine
  iintro ⟨#HR, Hm, HO, Hf, Hsp, Hr₀, Ha₂, Hr₁, Hr₂⟩
  isplitr; · iexact HR
  isplitl [HO Hf Hr₁]
  · isplitl [HO]; · iexact HO
    isplitl [Hr₁]; · unfold readies; iexact Hr₁
    isplitr; · iempintro
    isplitl [Hf]; · iexact Hf
    iempintro
  isplitl [Hm]; · iexact Hm
  isplitl [Hsp]; · iexact Hsp
  isplitl [Hr₀]; · iexact Hr₀
  isplitl [Ha₂] <;> iassumption

/-- After the six forwards: nothing is owed, and the waits for the other four chunks can begin. -/
theorem to_kept :
    iprop(records X K ∗ (owesE c (yO c 6) ∗ ge 6 (fun j => ready c (xr j)) ∗ lt 6 (came X c)
        ∗ ge 6 (fwdRes c) ∗ lt 6 (fun j : Fin 6 => cred (tallyAt (dcell c (ys j)) () N))) ∗ rest₃ X c)
      ⊢ iprop(records X K ∗ (owesE c 0 ∗ ge 6 (fun j => ready c (xr j)) ∗ lt 6 (came X c)) ∗ rest₄ X c) := by
  rw [ge_all, lt_all, yO_end]
  unfold rest₃ rest₄
  iintro ⟨#HR, ⟨HO, Hr, Hc, -, Hcr⟩, Hm, Hsp, Hr₀, Ha₂, Hr₂⟩
  isplitr; · iexact HR
  isplitl [HO Hr Hc]
  · isplitl [HO]; · iexact HO
    isplitl [Hr] <;> iassumption
  isplitl [Hm]; · iexact Hm
  isplitl [Hsp]; · iexact Hsp
  isplitl [Hr₀]; · iexact Hr₀
  isplitl [Ha₂ Hcr]
  · iapply (to_readies c ys); isplitl [Ha₂] <;> iassumption
  iexact Hr₂

/-- A chunk that isn't forwarded is kept. -/
theorem kept (n : ℕ) (h : 6 ≤ n) (hn : n < 10) : waited X c (xr ⟨n, hn⟩) ⊢ came X c ⟨n, hn⟩ := by
  unfold came waited
  rw [if_pos (show 6 ≤ (⟨n, hn⟩ : Fin 10).val from h)]

/-- After all ten chunks of the x-neighbour: the waits for those of the y-neighbour can begin. -/
theorem to_second :
    iprop(records X K ∗ (owesE c 0 ∗ ge 10 (fun j => ready c (xr j)) ∗ lt 10 (came X c)) ∗ rest₄ X c)
      ⊢ iprop(records X K ∗ (owesE c 0 ∗ ge 0 (fun j => ready c (yr j)) ∗ lt 0 (fun j => waited X c (yr j)))
        ∗ mine X c ∗ spare' (F := F) c ∗ readies (F := F) c xs ∗ readies (F := F) c ys ∗ allCame X c) := by
  rw [ge_all, lt_all, ge_zero, lt_zero]
  unfold rest₄
  iintro ⟨#HR, ⟨HO, -, Hc⟩, Hm, Hsp, Hr₀, Hr₁, Hr₂⟩
  isplitr; · iexact HR
  isplitl [HO Hr₂]
  · isplitl [HO]; · iexact HO
    isplitl [Hr₂]; · unfold readies; iexact Hr₂
    iempintro
  isplitl [Hm]; · iexact Hm
  isplitl [Hsp]; · iexact Hsp
  isplitl [Hr₀]; · iexact Hr₀
  isplitl [Hr₁]; · iexact Hr₁
  unfold allCame; iexact Hc

/-- After those: the waits for the ten sends can begin. -/
theorem to_sent :
    iprop(records X K ∗ (owesE c 0 ∗ ge 6 (fun j => ready c (yr j)) ∗ lt 6 (fun j => waited X c (yr j)))
        ∗ mine X c ∗ spare' (F := F) c ∗ readies (F := F) c xs ∗ readies (F := F) c ys ∗ allCame X c)
      ⊢ iprop(records X K ∗ (owesE c 0 ∗ ge 0 (fun j => ready c (xs j)) ∗ lt 0 (fun j => waited X c (xs j)))
        ∗ mine X c ∗ spare' (F := F) c ∗ closed X c yr ∗ readies (F := F) c ys ∗ allCame X c) := by
  rw [ge_all, lt_all, ge_zero, lt_zero]
  iintro ⟨#HR, ⟨HO, -, Hc⟩, Hm, Hsp, Hr₀, Hr₁, Hr₂⟩
  isplitr; · iexact HR
  isplitl [HO Hr₀]
  · isplitl [HO]; · iexact HO
    isplitl [Hr₀]; · unfold readies; iexact Hr₀
    iempintro
  isplitl [Hm]; · iexact Hm
  isplitl [Hsp]; · iexact Hsp
  isplitl [Hc]; · unfold closed; iexact Hc
  isplitl [Hr₁] <;> iassumption

/-- After those: the waits for the six forwards can begin. -/
theorem to_sent' :
    iprop(records X K ∗ (owesE c 0 ∗ ge 10 (fun j => ready c (xs j)) ∗ lt 10 (fun j => waited X c (xs j)))
        ∗ mine X c ∗ spare' (F := F) c ∗ closed X c yr ∗ readies (F := F) c ys ∗ allCame X c)
      ⊢ iprop(records X K ∗ (owesE c 0 ∗ ge 0 (fun j => ready c (ys j)) ∗ lt 0 (fun j => waited X c (ys j)))
        ∗ mine X c ∗ spare' (F := F) c ∗ closed X c yr ∗ closed X c xs ∗ allCame X c) := by
  rw [ge_all, lt_all, ge_zero, lt_zero]
  iintro ⟨#HR, ⟨HO, -, Hc⟩, Hm, Hsp, Hr₀, Hr₁, Hr₂⟩
  isplitr; · iexact HR
  isplitl [HO Hr₁]
  · isplitl [HO]; · iexact HO
    isplitl [Hr₁]; · unfold readies; iexact Hr₁
    iempintro
  isplitl [Hm]; · iexact Hm
  isplitl [Hsp]; · iexact Hsp
  isplitl [Hr₀]; · iexact Hr₀
  isplitl [Hc]; · unfold closed; iexact Hc
  iexact Hr₂

/-- After those: what is held at the end. -/
theorem to_done :
    iprop(records X K ∗ (owesE c 0 ∗ ge 6 (fun j => ready c (ys j)) ∗ lt 6 (fun j => waited X c (ys j)))
        ∗ mine X c ∗ spare' (F := F) c ∗ closed X c yr ∗ closed X c xs ∗ allCame X c) ⊢ done X c := by
  rw [ge_all, lt_all]
  unfold done
  iintro ⟨#HR, ⟨HO, -, Hc⟩, Hm, Hsp, H₁, H₂, H₃⟩
  isplitl [HO]; · iexact HO
  isplitl [Hm]; · iexact Hm
  isplitl [Hsp]; · iexact Hsp
  isplitl [H₃]; · iexact H₃
  isplitl [H₁]; · iexact H₁
  isplitl [H₂]; · iexact H₂
  unfold closed; iexact Hc

/-! ## The body -/

omit [FloatOps F] in
/-- The casts between equal shapes around a chunk's store leave it as it is, -/
theorem pay_id (v : Vec F S32x512 .bf16) :
    shapeCast S32x512 (shapeCast S32x512 v shapeCasts_S32x512_S32x512) shapeCasts_S32x512_S32x512 = v := by
  rw [shapeCast_self, shapeCast_self]
omit [FloatOps F] in
/-- and the one around the own half's. -/
theorem half_id (v : Vec F S512x512 .bf16) : shapeCast S512x512 v shapeCasts_S512x512_S512x512 = v := shapeCast_self _ _

/-- The first branch is that of the devices with first coordinate 0; -/
theorem px_1 (h : k0_cond1 c = 1#1) : px c = 0 := (cond1_iff c).1 h
/-- the second, of those with 1. -/
theorem px_2 (h : k0_cond2 c = 1#1) : px c = 1 := (cond2_iff c).1 h

/-- The body on a device of the first row of the mesh. -/
theorem wp_body1 (hc : k0_cond1 c = 1#1) (hn : ¬ k0_cond2 c = 1#1) :
    iprop(records X K ∗ toBar (F := F) c ∗ rest₀ X c)
      ⊢ WP c (cc0_body xM (Memref.isWhole_whole _) oM (Memref.isWhole_whole _) sM (Memref.isWhole_whole _)
          cc0_scratch1 cc0_scratch2 cc0_scratch3 cc0_scratch4) (fun _ => done X c) := by
  simp only [cc0_body_eq_skeleton]; unfold cc0_body_skel
  simp only [Prog.lift, Prog.bind_op, Prog.bind_ret, Prog.pure_eq_ret, wp_deviceId]
  rw [dif_pos hc, dif_neg hn]
  simp only [k0_part22_eq_skeleton]; unfold k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [semSignalWord, semWaitWord, Prog.lift, Prog.bind_op, Prog.bind_ret, Prog.pure_eq_ret]
  -- the barrier
  refine wp_barrier X K c _ _ _ (Fin.ext (devX1_eq c 0 hc)) (Fin.ext (devY1_eq c 0 hc)) ?_
  refine (to_sends X K c).trans ?_
  -- the ten chunks to the x-neighbour
  refine wp_chunk_next X K c _ (yO c 0) 0 (by decide) _ (Fin.ext (devX1_eq c 1 hc)) rfl rfl _ _ _ _ (off1_eq c hc 0) (off2_eq c hc 0) (off3_x c hc 0) (off4_eq c hc 0) _ pay_id ?_
  refine wp_chunk_next X K c _ (yO c 0) 1 (by decide) _ (Fin.ext (devX1_eq c 2 hc)) rfl rfl _ _ _ _ (off1_eq c hc 1) (off2_eq c hc 1) (off3_x c hc 1) (off4_eq c hc 1) _ pay_id ?_
  refine wp_chunk_next X K c _ (yO c 0) 2 (by decide) _ (Fin.ext (devX1_eq c 3 hc)) rfl rfl _ _ _ _ (off1_eq c hc 2) (off2_eq c hc 2) (off3_x c hc 2) (off4_eq c hc 2) _ pay_id ?_
  refine wp_chunk_next X K c _ (yO c 0) 3 (by decide) _ (Fin.ext (devX1_eq c 4 hc)) rfl rfl _ _ _ _ (off1_eq c hc 3) (off2_eq c hc 3) (off3_x c hc 3) (off4_eq c hc 3) _ pay_id ?_
  refine wp_chunk_next X K c _ (yO c 0) 4 (by decide) _ (Fin.ext (devX1_eq c 5 hc)) rfl rfl _ _ _ _ (off1_eq c hc 4) (off2_eq c hc 4) (off3_x c hc 4) (off4_eq c hc 4) _ pay_id ?_
  refine wp_chunk_next X K c _ (yO c 0) 5 (by decide) _ (Fin.ext (devX1_eq c 6 hc)) rfl rfl _ _ _ _ (off1_eq c hc 5) (off2_eq c hc 5) (off3_x c hc 5) (off4_eq c hc 5) _ pay_id ?_
  refine wp_chunk_next X K c _ (yO c 0) 6 (by decide) _ (Fin.ext (devX1_eq c 7 hc)) rfl rfl _ _ _ _ (off1_eq c hc 6) (off2_eq c hc 6) (off3_x c hc 6) (off4_eq c hc 6) _ pay_id ?_
  refine wp_chunk_next X K c _ (yO c 0) 7 (by decide) _ (Fin.ext (devX1_eq c 8 hc)) rfl rfl _ _ _ _ (off1_eq c hc 7) (off2_eq c hc 7) (off3_x c hc 7) (off4_eq c hc 7) _ pay_id ?_
  refine wp_chunk_next X K c _ (yO c 0) 8 (by decide) _ (Fin.ext (devX1_eq c 9 hc)) rfl rfl _ _ _ _ (off1_eq c hc 8) (off2_eq c hc 8) (off3_x c hc 8) (off4_eq c hc 8) _ pay_id ?_
  refine wp_chunk_next X K c _ (yO c 0) 9 (by decide) _ (Fin.ext (devX1_eq c 10 hc)) rfl rfl _ _ _ _ (off1_eq c hc 9) (off2_eq c hc 9) (off3_x c hc 9) (off4_eq c hc 9) _ pay_id ?_
  refine (to_own X K c).trans ?_
  -- the own half
  refine wp_own X K c _ _ _ (by rw [px_1 c hc]) (by rw [px_1 c hc]) _ half_id ?_
  refine (to_forwards X K c).trans ?_
  -- the chunks from the x-neighbour, the first six of them forwarded
  refine wp_fwd_next X K c _ 0 (by decide) rfl _ (Fin.ext (devY1_eq c 1 hc)) rfl rfl _ _ (off3_r c hc 0) (off3_r c hc 0) ?_
  refine wp_fwd_next X K c _ 1 (by decide) rfl _ (Fin.ext (devY1_eq c 2 hc)) rfl rfl _ _ (off3_r c hc 1) (off3_r c hc 1) ?_
  refine wp_fwd_next X K c _ 2 (by decide) rfl _ (Fin.ext (devY1_eq c 3 hc)) rfl rfl _ _ (off3_r c hc 2) (off3_r c hc 2) ?_
  refine wp_fwd_next X K c _ 3 (by decide) rfl _ (Fin.ext (devY1_eq c 4 hc)) rfl rfl _ _ (off3_r c hc 3) (off3_r c hc 3) ?_
  refine wp_fwd_next X K c _ 4 (by decide) rfl _ (Fin.ext (devY1_eq c 5 hc)) rfl rfl _ _ (off3_r c hc 4) (off3_r c hc 4) ?_
  refine wp_fwd_next X K c _ 5 (by decide) rfl _ (Fin.ext (devY1_eq c 6 hc)) rfl rfl _ _ (off3_r c hc 5) (off3_r c hc 5) ?_
  refine (to_kept X K c).trans ?_
  refine wp_wait_next X K c _ xr (came X c) 6 (by decide) 0 (kept X c 6 (by decide) _) (mayWait_zero c _) rfl ?_
  refine wp_wait_next X K c _ xr (came X c) 7 (by decide) 0 (kept X c 7 (by decide) _) (mayWait_zero c _) rfl ?_
  refine wp_wait_next X K c _ xr (came X c) 8 (by decide) 0 (kept X c 8 (by decide) _) (mayWait_zero c _) rfl ?_
  refine wp_wait_next X K c _ xr (came X c) 9 (by decide) 0 (kept X c 9 (by decide) _) (mayWait_zero c _) rfl ?_
  -- the chunks from the y-neighbour, then the sends' ends
  refine (to_second X K c).trans ?_
  refine wp_wait_next X K c _ yr (fun j => waited X c (yr j)) 0 (by decide) 0 (Entails.refl _) (mayWait_zero c _) rfl ?_
  refine wp_wait_next X K c _ yr (fun j => waited X c (yr j)) 1 (by decide) 0 (Entails.refl _) (mayWait_zero c _) rfl ?_
  refine wp_wait_next X K c _ yr (fun j => waited X c (yr j)) 2 (by decide) 0 (Entails.refl _) (mayWait_zero c _) rfl ?_
  refine wp_wait_next X K c _ yr (fun j => waited X c (yr j)) 3 (by decide) 0 (Entails.refl _) (mayWait_zero c _) rfl ?_
  refine wp_wait_next X K c _ yr (fun j => waited X c (yr j)) 4 (by decide) 0 (Entails.refl _) (mayWait_zero c _) rfl ?_
  refine wp_wait_next X K c _ yr (fun j => waited X c (yr j)) 5 (by decide) 0 (Entails.refl _) (mayWait_zero c _) rfl ?_
  refine (to_sent X K c).trans ?_
  refine wp_wait_next X K c _ xs (fun j => waited X c (xs j)) 0 (by decide) 0 (Entails.refl _) (mayWait_zero c _) rfl ?_
  refine wp_wait_next X K c _ xs (fun j => waited X c (xs j)) 1 (by decide) 0 (Entails.refl _) (mayWait_zero c _) rfl ?_
  refine wp_wait_next X K c _ xs (fun j => waited X c (xs j)) 2 (by decide) 0 (Entails.refl _) (mayWait_zero c _) rfl ?_
  refine wp_wait_next X K c _ xs (fun j => waited X c (xs j)) 3 (by decide) 0 (Entails.refl _) (mayWait_zero c _) rfl ?_
  refine wp_wait_next X K c _ xs (fun j => waited X c (xs j)) 4 (by decide) 0 (Entails.refl _) (mayWait_zero c _) rfl ?_
  refine wp_wait_next X K c _ xs (fun j => waited X c (xs j)) 5 (by decide) 0 (Entails.refl _) (mayWait_zero c _) rfl ?_
  refine wp_wait_next X K c _ xs (fun j => waited X c (xs j)) 6 (by decide) 0 (Entails.refl _) (mayWait_zero c _) rfl ?_
  refine wp_wait_next X K c _ xs (fun j => waited X c (xs j)) 7 (by decide) 0 (Entails.refl _) (mayWait_zero c _) rfl ?_
  refine wp_wait_next X K c _ xs (fun j => waited X c (xs j)) 8 (by decide) 0 (Entails.refl _) (mayWait_zero c _) rfl ?_
  refine wp_wait_next X K c _ xs (fun j => waited X c (xs j)) 9 (by decide) 0 (Entails.refl _) (mayWait_zero c _) rfl ?_
  refine (to_sent' X K c).trans ?_
  refine wp_wait_next X K c _ ys (fun j => waited X c (ys j)) 0 (by decide) 0 (Entails.refl _) (mayWait_zero c _) rfl ?_
  refine wp_wait_next X K c _ ys (fun j => waited X c (ys j)) 1 (by decide) 0 (Entails.refl _) (mayWait_zero c _) rfl ?_
  refine wp_wait_next X K c _ ys (fun j => waited X c (ys j)) 2 (by decide) 0 (Entails.refl _) (mayWait_zero c _) rfl ?_
  refine wp_wait_next X K c _ ys (fun j => waited X c (ys j)) 3 (by decide) 0 (Entails.refl _) (mayWait_zero c _) rfl ?_
  refine wp_wait_next X K c _ ys (fun j => waited X c (ys j)) 4 (by decide) 0 (Entails.refl _) (mayWait_zero c _) rfl ?_
  refine wp_wait_next X K c _ ys (fun j => waited X c (ys j)) 5 (by decide) 0 (Entails.refl _) (mayWait_zero c _) rfl ?_
  refine (to_done X K c).trans ?_
  unfold WP; rw [wp_ret]
  iintro H; imodintro; iexact H

/-- The body on a device of the second row of the mesh. -/
theorem wp_body2 (hc : k0_cond2 c = 1#1) (hn : ¬ k0_cond1 c = 1#1) :
    iprop(records X K ∗ toBar (F := F) c ∗ rest₀ X c)
      ⊢ WP c (cc0_body xM (Memref.isWhole_whole _) oM (Memref.isWhole_whole _) sM (Memref.isWhole_whole _)
          cc0_scratch1 cc0_scratch2 cc0_scratch3 cc0_scratch4) (fun _ => done X c) := by
  simp only [cc0_body_eq_skeleton]; unfold cc0_body_skel
  simp only [Prog.lift, Prog.bind_op, Prog.bind_ret, Prog.pure_eq_ret, wp_deviceId]
  rw [dif_neg hn, dif_pos hc]
  simp only [k0_part44_eq_skeleton]; unfold k0_part44_skel
  simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  simp only [semSignalWord, semWaitWord, Prog.lift, Prog.bind_op, Prog.bind_ret, Prog.pure_eq_ret]
  -- the barrier
  refine wp_barrier X K c _ _ _ (Fin.ext (devX2_eq c 0 hc)) (Fin.ext (devY2_eq c 0 hc)) ?_
  refine (to_sends X K c).trans ?_
  -- the ten chunks to the x-neighbour
  refine wp_chunk_next X K c _ (yO c 0) 0 (by decide) _ (Fin.ext (devX2_eq c 1 hc)) rfl rfl _ _ _ _ (off6_eq c hc 0) (off7_eq c hc 0) (off8_x c hc 0) (off9_eq c hc 0) _ pay_id ?_
  refine wp_chunk_next X K c _ (yO c 0) 1 (by decide) _ (Fin.ext (devX2_eq c 2 hc)) rfl rfl _ _ _ _ (off6_eq c hc 1) (off7_eq c hc 1) (off8_x c hc 1) (off9_eq c hc 1) _ pay_id ?_
  refine wp_chunk_next X K c _ (yO c 0) 2 (by decide) _ (Fin.ext (devX2_eq c 3 hc)) rfl rfl _ _ _ _ (off6_eq c hc 2) (off7_eq c hc 2) (off8_x c hc 2) (off9_eq c hc 2) _ pay_id ?_
  refine wp_chunk_next X K c _ (yO c 0) 3 (by decide) _ (Fin.ext (devX2_eq c 4 hc)) rfl rfl _ _ _ _ (off6_eq c hc 3) (off7_eq c hc 3) (off8_x c hc 3) (off9_eq c hc 3) _ pay_id ?_
  refine wp_chunk_next X K c _ (yO c 0) 4 (by decide) _ (Fin.ext (devX2_eq c 5 hc)) rfl rfl _ _ _ _ (off6_eq c hc 4) (off7_eq c hc 4) (off8_x c hc 4) (off9_eq c hc 4) _ pay_id ?_
  refine wp_chunk_next X K c _ (yO c 0) 5 (by decide) _ (Fin.ext (devX2_eq c 6 hc)) rfl rfl _ _ _ _ (off6_eq c hc 5) (off7_eq c hc 5) (off8_x c hc 5) (off9_eq c hc 5) _ pay_id ?_
  refine wp_chunk_next X K c _ (yO c 0) 6 (by decide) _ (Fin.ext (devX2_eq c 7 hc)) rfl rfl _ _ _ _ (off6_eq c hc 6) (off7_eq c hc 6) (off8_x c hc 6) (off9_eq c hc 6) _ pay_id ?_
  refine wp_chunk_next X K c _ (yO c 0) 7 (by decide) _ (Fin.ext (devX2_eq c 8 hc)) rfl rfl _ _ _ _ (off6_eq c hc 7) (off7_eq c hc 7) (off8_x c hc 7) (off9_eq c hc 7) _ pay_id ?_
  refine wp_chunk_next X K c _ (yO c 0) 8 (by decide) _ (Fin.ext (devX2_eq c 9 hc)) rfl rfl _ _ _ _ (off6_eq c hc 8) (off7_eq c hc 8) (off8_x c hc 8) (off9_eq c hc 8) _ pay_id ?_
  refine wp_chunk_next X K c _ (yO c 0) 9 (by decide) _ (Fin.ext (devX2_eq c 10 hc)) rfl rfl _ _ _ _ (off6_eq c hc 9) (off7_eq c hc 9) (off8_x c hc 9) (off9_eq c hc 9) _ pay_id ?_
  refine (to_own X K c).trans ?_
  -- the own half
  refine wp_own X K c _ _ _ (by rw [px_2 c hc]) (by rw [px_2 c hc]) _ half_id ?_
  refine (to_forwards X K c).trans ?_
  -- the chunks from the x-neighbour, the first six of them forwarded
  refine wp_fwd_next X K c _ 0 (by decide) rfl _ (Fin.ext (devY2_eq c 1 hc)) rfl rfl _ _ (off8_r c hc 0) (off8_r c hc 0) ?_
  refine wp_fwd_next X K c _ 1 (by decide) rfl _ (Fin.ext (devY2_eq c 2 hc)) rfl rfl _ _ (off8_r c hc 1) (off8_r c hc 1) ?_
  refine wp_fwd_next X K c _ 2 (by decide) rfl _ (Fin.ext (devY2_eq c 3 hc)) rfl rfl _ _ (off8_r c hc 2) (off8_r c hc 2) ?_
  refine wp_fwd_next X K c _ 3 (by decide) rfl _ (Fin.ext (devY2_eq c 4 hc)) rfl rfl _ _ (off8_r c hc 3) (off8_r c hc 3) ?_
  refine wp_fwd_next X K c _ 4 (by decide) rfl _ (Fin.ext (devY2_eq c 5 hc)) rfl rfl _ _ (off8_r c hc 4) (off8_r c hc 4) ?_
  refine wp_fwd_next X K c _ 5 (by decide) rfl _ (Fin.ext (devY2_eq c 6 hc)) rfl rfl _ _ (off8_r c hc 5) (off8_r c hc 5) ?_
  refine (to_kept X K c).trans ?_
  refine wp_wait_next X K c _ xr (came X c) 6 (by decide) 0 (kept X c 6 (by decide) _) (mayWait_zero c _) rfl ?_
  refine wp_wait_next X K c _ xr (came X c) 7 (by decide) 0 (kept X c 7 (by decide) _) (mayWait_zero c _) rfl ?_
  refine wp_wait_next X K c _ xr (came X c) 8 (by decide) 0 (kept X c 8 (by decide) _) (mayWait_zero c _) rfl ?_
  refine wp_wait_next X K c _ xr (came X c) 9 (by decide) 0 (kept X c 9 (by decide) _) (mayWait_zero c _) rfl ?_
  -- the chunks from the y-neighbour, then the sends' ends
  refine (to_second X K c).trans ?_
  refine wp_wait_next X K c _ yr (fun j => waited X c (yr j)) 0 (by decide) 0 (Entails.refl _) (mayWait_zero c _) rfl ?_
  refine wp_wait_next X K c _ yr (fun j => waited X c (yr j)) 1 (by decide) 0 (Entails.refl _) (mayWait_zero c _) rfl ?_
  refine wp_wait_next X K c _ yr (fun j => waited X c (yr j)) 2 (by decide) 0 (Entails.refl _) (mayWait_zero c _) rfl ?_
  refine wp_wait_next X K c _ yr (fun j => waited X c (yr j)) 3 (by decide) 0 (Entails.refl _) (mayWait_zero c _) rfl ?_
  refine wp_wait_next X K c _ yr (fun j => waited X c (yr j)) 4 (by decide) 0 (Entails.refl _) (mayWait_zero c _) rfl ?_
  refine wp_wait_next X K c _ yr (fun j => waited X c (yr j)) 5 (by decide) 0 (Entails.refl _) (mayWait_zero c _) rfl ?_
  refine (to_sent X K c).trans ?_
  refine wp_wait_next X K c _ xs (fun j => waited X c (xs j)) 0 (by decide) 0 (Entails.refl _) (mayWait_zero c _) rfl ?_
  refine wp_wait_next X K c _ xs (fun j => waited X c (xs j)) 1 (by decide) 0 (Entails.refl _) (mayWait_zero c _) rfl ?_
  refine wp_wait_next X K c _ xs (fun j => waited X c (xs j)) 2 (by decide) 0 (Entails.refl _) (mayWait_zero c _) rfl ?_
  refine wp_wait_next X K c _ xs (fun j => waited X c (xs j)) 3 (by decide) 0 (Entails.refl _) (mayWait_zero c _) rfl ?_
  refine wp_wait_next X K c _ xs (fun j => waited X c (xs j)) 4 (by decide) 0 (Entails.refl _) (mayWait_zero c _) rfl ?_
  refine wp_wait_next X K c _ xs (fun j => waited X c (xs j)) 5 (by decide) 0 (Entails.refl _) (mayWait_zero c _) rfl ?_
  refine wp_wait_next X K c _ xs (fun j => waited X c (xs j)) 6 (by decide) 0 (Entails.refl _) (mayWait_zero c _) rfl ?_
  refine wp_wait_next X K c _ xs (fun j => waited X c (xs j)) 7 (by decide) 0 (Entails.refl _) (mayWait_zero c _) rfl ?_
  refine wp_wait_next X K c _ xs (fun j => waited X c (xs j)) 8 (by decide) 0 (Entails.refl _) (mayWait_zero c _) rfl ?_
  refine wp_wait_next X K c _ xs (fun j => waited X c (xs j)) 9 (by decide) 0 (Entails.refl _) (mayWait_zero c _) rfl ?_
  refine (to_sent' X K c).trans ?_
  refine wp_wait_next X K c _ ys (fun j => waited X c (ys j)) 0 (by decide) 0 (Entails.refl _) (mayWait_zero c _) rfl ?_
  refine wp_wait_next X K c _ ys (fun j => waited X c (ys j)) 1 (by decide) 0 (Entails.refl _) (mayWait_zero c _) rfl ?_
  refine wp_wait_next X K c _ ys (fun j => waited X c (ys j)) 2 (by decide) 0 (Entails.refl _) (mayWait_zero c _) rfl ?_
  refine wp_wait_next X K c _ ys (fun j => waited X c (ys j)) 3 (by decide) 0 (Entails.refl _) (mayWait_zero c _) rfl ?_
  refine wp_wait_next X K c _ ys (fun j => waited X c (ys j)) 4 (by decide) 0 (Entails.refl _) (mayWait_zero c _) rfl ?_
  refine wp_wait_next X K c _ ys (fun j => waited X c (ys j)) 5 (by decide) 0 (Entails.refl _) (mayWait_zero c _) rfl ?_
  refine (to_done X K c).trans ?_
  unfold WP; rw [wp_ret]
  iintro H; imodintro; iexact H

end

end Cert.KernelIdeal.Exch

end
-- ==== Proof.KernelIdeal.Pieces.lean ====
/- The buffers as the exchange divides them: the result into the own half, ten chunks that the x-neighbour
   writes and six that the y-neighbour does; the send buffer into its ten chunks and what is left. -/
module

public import proofs.«01_k».proof.Proof.KernelIdeal.Body

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rows -/

section Rows
variable (c : Dev nD)

/-- The rows of a chunk of the result that a neighbour writes. -/
def piece : Fin 10 ⊕ Fin 6 → Finset S1024x512.Idx
  | .inl j => oRows (xRow c j) 32
  | .inr j => oRows (yRow c j) 32

/-- Chunks of one walk have no row in common, -/
theorem row_apart {y j j' r : ℕ} (hj : j < 10) (hj' : j' < 10) (hn : j ≠ j') (h₁ : row y j ≤ r) (h₂ : r < row y j + 32)
    (h₃ : row y j' ≤ r) (h₄ : r < row y j' + 32) : False := by
  unfold row at h₁ h₂ h₃ h₄
  by_cases hy : y = 0
  · simp only [if_pos hy] at h₁ h₂ h₃ h₄; omega
  · simp only [if_neg hy] at h₁ h₂ h₃ h₄; omega

/-- and the first six of the other walk have none with the ten of this one. -/
theorem row_across {y j j' r : ℕ} (hy : y < 2) (hj : j < 10) (hj' : j' < 6) (h₁ : row y j ≤ r) (h₂ : r < row y j + 32)
    (h₃ : row (1 - y) j' ≤ r) (h₄ : r < row (1 - y) j' + 32) : False := by
  unfold row at h₁ h₂ h₃ h₄
  obtain rfl | rfl : y = 0 ∨ y = 1 := by omega
  · simp at h₁ h₂ h₃ h₄; omega
  · simp at h₁ h₂ h₃ h₄; omega

/-- Different chunks have no row in common. -/
theorem piece_disjoint (t t' : Fin 10 ⊕ Fin 6) (h : t ≠ t') : Disjoint (piece c t) (piece c t') := by
  have hy := py_lt c
  rw [Finset.disjoint_left]
  intro i hi hi'
  rcases t with j | j <;> rcases t' with j' | j' <;> simp only [piece, mem_oRows, xRow, yRow] at hi hi' <;>
    have hj := j.isLt <;> have hj' := j'.isLt
  · exact row_apart (y := py c) (r := (i 0).val - (1 - px c) * 512) hj hj' (fun e => h (by rw [Fin.ext e])) (by omega) (by omega) (by omega) (by omega)
  · exact row_across (y := py c) (r := (i 0).val - (1 - px c) * 512) hy hj hj' (by omega) (by omega) (by omega) (by omega)
  · exact row_across (y := py c) (r := (i 0).val - (1 - px c) * 512) hy hj' hj (by omega) (by omega) (by omega) (by omega)
  · exact row_apart (y := 1 - py c) (j := j.val) (j' := j'.val) (r := (i 0).val - (1 - px c) * 512) (by omega) (by omega) (fun e => h (by rw [Fin.ext e])) (by omega) (by omega) (by omega) (by omega)

/-- Together the chunks are what the own half leaves. -/
theorem piece_cover : Finset.univ.biUnion (piece c) = Finset.univ \ oRows (px c * 512) 512 := by
  have hx := px_lt c
  have hy := py_lt c
  ext i
  have hi : (i 0).val < 1024 := (i 0).isLt
  simp only [Finset.mem_biUnion, Finset.mem_univ, true_and, Finset.mem_sdiff, mem_oRows]
  constructor
  · rintro ⟨j | j, hj⟩ <;>
      (have h₁ := j.isLt
       simp only [piece, mem_oRows, xRow, yRow, row] at hj
       split at hj <;> omega)
  · intro h
    have hr : (1 - px c) * 512 ≤ (i 0).val ∧ (i 0).val < (1 - px c) * 512 + 512 := by omega
    generalize hb : (1 - px c) * 512 = b at hr
    by_cases h₀ : py c = 0
    · by_cases h₁ : ((i 0).val - b) / 32 < 10
      · refine ⟨.inl ⟨((i 0).val - b) / 32, h₁⟩, ?_⟩
        simp only [piece, mem_oRows, xRow, row, hb, if_pos h₀]; omega
      · refine ⟨.inr ⟨15 - ((i 0).val - b) / 32, by omega⟩, ?_⟩
        simp only [piece, mem_oRows, yRow, row, hb, if_neg (show ¬ 1 - py c = 0 by omega)]; omega
    · by_cases h₁ : ((i 0).val - b) / 32 < 6
      · refine ⟨.inr ⟨((i 0).val - b) / 32, h₁⟩, ?_⟩
        simp only [piece, mem_oRows, yRow, row, hb, if_pos (show 1 - py c = 0 by omega)]; omega
      · refine ⟨.inl ⟨15 - ((i 0).val - b) / 32, by omega⟩, ?_⟩
        simp only [piece, mem_oRows, xRow, row, hb, if_neg h₀]; omega

/-- Different chunks of the send buffer have no row in common. -/
theorem send_disjoint (j j' : Fin 10) (h : j ≠ j') : Disjoint (sRows (sRow c j) 32) (sRows (sRow c j') 32) := by
  rw [Finset.disjoint_left]
  intro i hi hi'
  rw [mem_sRows] at hi hi'
  exact row_apart j.isLt j'.isLt (fun e => h (Fin.ext e)) hi.1 hi.2 hi'.1 hi'.2

end Rows

/-! ## The buffers -/

section Buffers
variable (c : Dev nD)

omit [FloatOps F] in
/-- Contents may be forgotten. -/
theorem any_intro {T : Type} {Φ : T → sProp 𝕄} (f : T) : Φ f ⊢ iprop(∃ f, Φ f) := by
  iintro H
  iexists f
  iexact H

omit [FloatOps F] in
/-- The result's buffer in its pieces. -/
theorem whole_o (f : S1024x512.Idx → Elt F .bf16) :
    (oPts c Finset.univ f : sProp 𝕄) ⊣⊢ iprop(oPts c (oRows (px c * 512) 512) f
      ∗ (bigSep Finset.univ fun j : Fin 10 => oPts c (oRows (xRow c j) 32) f)
      ∗ (bigSep Finset.univ fun j : Fin 6 => oPts c (oRows (yRow c j) 32) f)) := by
  have h := pointsTo_split_subset (nD := nD) (τ := τ) (sig := sig) (Ix := Unit) (Val := Elt F) (Name := ℕ) (U := UU) (Lvl := ℕ)
    (ℓ := (c : Thread nD τ).loc cc0_stg1_0) (q := fullShare) (f := f) (Finset.subset_univ (oRows (px c * 512) 512))
  have hb : ((c : Thread nD τ).loc cc0_stg1_0 ↦[Finset.univ \ oRows (px c * 512) 512]{fullShare} f : sProp 𝕄)
      = bigSep Finset.univ fun t => oPts c (piece c t) f := by
    rw [← piece_cover c]
    exact pointsTo_biUnion (ℓ := (c : Thread nD τ).loc cc0_stg1_0) Finset.univ (piece c) fun t _ t' _ ht => piece_disjoint c t t' ht
  rw [hb, bigSep_univ_sum] at h
  exact h

omit [FloatOps F] in
/-- At any contents they are what the exchange starts from; -/
theorem open_o (f : S1024x512.Idx → Elt F .bf16) :
    (oPts c Finset.univ f : sProp 𝕄) ⊢ iprop(ownAny (F := F) c
      ∗ (bigSep Finset.univ fun j : Fin 10 => oAny (F := F) c (xRow c j)) ∗ (bigSep Finset.univ fun j : Fin 6 => oAny (F := F) c (yRow c j))) := by
  refine (whole_o c f).1.trans (BI.sep_mono ?_ (BI.sep_mono (bigSep_mono fun j _ => ?_) (bigSep_mono fun j _ => ?_)))
  · unfold ownAny; exact any_intro (Φ := fun f => oPts (F := F) c _ f) f
  · unfold oAny; exact any_intro (Φ := fun f => oPts (F := F) c _ f) f
  · unfold oAny; exact any_intro (Φ := fun f => oPts (F := F) c _ f) f

omit [FloatOps F] in
/-- and so are the send buffer's. -/
theorem open_s (f : S512x512.Idx → Elt F .bf16) :
    (sPts c Finset.univ f : sProp 𝕄) ⊢ iprop((bigSep Finset.univ fun j : Fin 10 => iprop(∃ f, sPts (F := F) c (sRows (sRow c j) 32) f)) ∗ spare (F := F) c) := by
  have h := pointsTo_split_subset (nD := nD) (τ := τ) (sig := sig) (Ix := Unit) (Val := Elt F) (Name := ℕ) (U := UU) (Lvl := ℕ)
    (ℓ := (c : Thread nD τ).loc cc0_scratch0) (q := fullShare) (f := f) (Finset.subset_univ (Finset.univ.biUnion fun j : Fin 10 => sRows (sRow c j) 32))
  rw [pointsTo_biUnion Finset.univ _ fun t _ t' _ ht => send_disjoint c t t' ht] at h
  refine h.1.trans (BI.sep_mono (bigSep_mono fun j _ => ?_) ?_)
  · exact any_intro (Φ := fun f => sPts (F := F) c _ f) f
  · unfold spare sRest; exact any_intro (Φ := fun f => sPts (F := F) c _ f) f

variable (X : Dev nD → S512x1024.Idx → Elt F .bf16)

omit [FloatOps F] in
/-- The send buffer put together again. -/
theorem close_s : iprop((bigSep Finset.univ fun j : Fin 10 => sPts c (sRows (sRow c j) 32) (sbC X c)) ∗ spare (F := F) c)
    ⊢ iprop(∃ f, sPts (F := F) c Finset.univ f) := by
  unfold spare sPts sRest
  iintro ⟨Hs, ⟨%f, Hr⟩⟩
  ihave Hs := (Entails.of_eq (pointsTo_biUnion Finset.univ _ fun t _ t' _ ht => send_disjoint c t t' ht).symm) $$ Hs
  iexists _
  iapply (pointsTo_join_subset (Finset.subset_univ (Finset.univ.biUnion fun j : Fin 10 => sRows (sRow c j) 32)))
  isplitl [Hs] <;> iassumption

/-- The x-neighbour's chunks that were forwarded are back from the forwards' ends, the others were kept:
    all ten, with the counters of both families at zero. -/
theorem x_chunks : iprop(allCame X c ∗ closed X c ys)
    ⊢ iprop((bigSep Finset.univ fun j : Fin 10 => oPts c (oRows (xRow c j) 32) (outC X c))
      ∗ (bigSep Finset.univ fun j : Fin 10 => semVal (dcell c (xr j)) 0) ∗ (bigSep Finset.univ fun j : Fin 6 => semVal (dcell c (ys j)) 0)) := by
  have hc : allCame (F := F) X c = iprop((bigSep Finset.univ fun j : Fin 10 => semVal (dcell c (xr j)) 0)
      ∗ bigSep Finset.univ fun j : Fin 10 => iprop(if 6 ≤ j.val then oPts c (oRows (xRow c j) 32) (outC X c) else iprop(emp))) := by
    rw [← bigSep_sep']; rfl
  have hy : closed (F := F) X c ys = iprop((bigSep Finset.univ fun j : Fin 6 => semVal (dcell c (ys j)) 0)
      ∗ bigSep Finset.univ fun j : Fin 6 => oPts c (oRows (xRow c j) 32) (outC X c)) := by
    rw [← bigSep_sep']; rfl
  have hs : ∀ Φ : Fin 10 → sProp 𝕄, bigSep Finset.univ Φ
      = iprop((bigSep Finset.univ fun j : Fin 6 => Φ (Fin.castAdd 4 j)) ∗ bigSep Finset.univ fun j : Fin 4 => Φ (Fin.natAdd 6 j)) := fun Φ => by
    rw [bigSep_univ_equiv (finSumFinEquiv (m := 6) (n := 4)) Φ, bigSep_univ_sum]; rfl
  have hk : (bigSep Finset.univ fun j : Fin 10 => iprop(if 6 ≤ j.val then oPts c (oRows (xRow c j) 32) (outC X c) else iprop(emp) : sProp 𝕄))
      ⊢ bigSep Finset.univ fun j : Fin 4 => (oPts c (oRows (xRow c (Fin.natAdd 6 j : Fin 10)) 32) (outC X c) : sProp 𝕄) := by
    rw [hs]
    refine sep_elim_right.trans (bigSep_mono fun j _ => ?_)
    rw [if_pos (show 6 ≤ (Fin.natAdd 6 j : Fin 10).val from Nat.le_add_right 6 j.val)]
    exact Entails.refl _
  rw [hc, hy, hs fun j => oPts c (oRows (xRow c j) 32) (outC X c)]
  iintro ⟨⟨Hz, Hk⟩, Hz', Hf⟩
  isplitr [Hz Hz']
  · isplitl [Hf]; · iexact Hf
    iapply hk; iexact Hk
  isplitl [Hz] <;> iassumption

omit [FloatOps F] in
/-- A statement of every transfer's cell is one of each of the four families'. -/
theorem bigSep_DK (Φ : DK → sProp 𝕄) : bigSep Finset.univ Φ
    = iprop((bigSep Finset.univ fun j => Φ (xs j)) ∗ (bigSep Finset.univ fun j => Φ (xr j))
      ∗ (bigSep Finset.univ fun j => Φ (ys j)) ∗ bigSep Finset.univ fun j => Φ (yr j)) := by
  rw [bigSep_univ_sum, bigSep_univ_sum, bigSep_univ_sum]; rfl

/-- What the launch gives a device beside its debts and its buffers: the turns to wait, the tokens of the
    payments that it makes, and the credits of those that come from the neighbours. -/
def dealt : sProp 𝕄 :=
  iprop(atPos ER (barCell c) 0 ∅ 0 ∗ (bigSep Finset.univ fun k : DK => atPos ER (dcell c k) 0 ∅ 0)
    ∗ dutyTok ER (barCell (xp c)) 0 false ∗ dutyTok ER (barCell (yp c)) 0 true
    ∗ toks (F := F) c xs ∗ toks (F := F) (xp c) xr ∗ toks (F := F) c ys ∗ toks (F := F) (yp c) yr)
@[inherit_doc dealt]
def credits : sProp 𝕄 :=
  iprop(cred (tallyAt (barCell c) () 2) ∗ (bigSep Finset.univ fun j : Fin 10 => cred (tallyAt (dcell c (xr j)) () N))
    ∗ bigSep Finset.univ fun j : Fin 6 => cred (tallyAt (dcell c (yr j)) () N))

/-- From that and the buffers the body starts. -/
theorem enter (f : S1024x512.Idx → Elt F .bf16) (g : S512x512.Idx → Elt F .bf16) :
    iprop(owesE (F := F) c (O₀ c) ∗ dealt (F := F) c ∗ credits (F := F) c ∗ xPts X c ∗ oPts c Finset.univ f ∗ sPts c Finset.univ g)
      ⊢ iprop(toBar (F := F) c ∗ rest₀ X c) := by
  unfold dealt credits toBar rest₀
  rw [bigSep_DK]
  iintro ⟨HO, ⟨HaB, ⟨Ha₁, Ha₂, Ha₃, Ha₄⟩, Ht₁, Ht₂, Ht₃, Ht₄, Ht₅, Ht₆⟩, ⟨HcB, Hc₁, Hc₂⟩, Hx, Ho, Hs⟩
  ihave Ho := (open_o c f) $$ Ho
  ihave Hs := (open_s c g) $$ Hs
  icases Ho with ⟨Ho₁, Ho₂, Ho₃⟩
  icases Hs with ⟨Hs₁, Hs₂⟩
  isplitl [HO Ht₁ Ht₂ HaB HcB Ho₂ Ho₃]
  · isplitl [HO]; · iexact HO
    isplitl [Ht₁]; · iexact Ht₁
    isplitl [Ht₂]; · iexact Ht₂
    isplitl [HaB]; · iexact HaB
    isplitl [HcB]; · iexact HcB
    isplitl [Ho₂] <;> iassumption
  isplitl [Hx]; · iexact Hx
  isplitl [Hs₁]; · iexact Hs₁
  isplitl [Ht₃]; · iexact Ht₃
  isplitl [Ht₄]; · iexact Ht₄
  isplitl [Ht₅]; · iexact Ht₅
  isplitl [Ht₆]; · iexact Ht₆
  isplitl [Ho₁]; · iexact Ho₁
  isplitl [Hs₂]; · iexact Hs₂
  isplitl [Ha₁]; · unfold turns; iexact Ha₁
  isplitl [Ha₃]; · unfold turns; iexact Ha₃
  isplitl [Ha₂ Hc₁]
  · iapply (to_readies c xr); unfold turns; isplitl [Ha₂] <;> iassumption
  iapply (to_readies c yr); unfold turns; isplitl [Ha₄] <;> iassumption

/-- At the end the buffers are whole again, the result exchanged, and every counter is at zero. -/
theorem leave : done X c ⊢ iprop(owesE (F := F) c 0 ∗ xPts X c ∗ oPts c Finset.univ (outC X c) ∗ (∃ g, sPts (F := F) c Finset.univ g)
    ∗ semVal (barCell c) 0 ∗ bigSep Finset.univ fun k : DK => semVal (dcell c k) 0) := by
  have hz : closed (F := F) X c xs = iprop((bigSep Finset.univ fun j : Fin 10 => semVal (dcell c (xs j)) 0)
      ∗ bigSep Finset.univ fun j : Fin 10 => sPts c (sRows (sRow c j) 32) (sbC X c)) := by
    rw [← bigSep_sep']; rfl
  have hy : closed (F := F) X c yr = iprop((bigSep Finset.univ fun j : Fin 6 => semVal (dcell c (yr j)) 0)
      ∗ bigSep Finset.univ fun j : Fin 6 => oPts c (oRows (yRow c j) 32) (outC X c)) := by
    rw [← bigSep_sep']; rfl
  unfold done mine spare'
  rw [hz, hy, bigSep_DK]
  iintro ⟨HO, ⟨Hx, Ho₁⟩, ⟨HzB, Hsp⟩, Hc, ⟨Hz₄, Ho₃⟩, ⟨Hz₁, Hs⟩, Hy⟩
  ihave Hq := (x_chunks c X) $$ [Hc Hy]
  · isplitl [Hc] <;> iassumption
  icases Hq with ⟨Ho₂, Hz₂, Hz₃⟩
  isplitl [HO]; · iexact HO
  isplitl [Hx]; · iexact Hx
  isplitl [Ho₁ Ho₂ Ho₃]
  · iapply (whole_o c (outC X c)).2
    isplitl [Ho₁]; · iexact Ho₁
    isplitl [Ho₂] <;> iassumption
  isplitl [Hs Hsp]
  · iapply (close_s c X); isplitl [Hs] <;> iassumption
  isplitl [HzB]; · iexact HzB
  isplitl [Hz₁]; · iexact Hz₁
  isplitl [Hz₂]; · iexact Hz₂
  isplitl [Hz₃] <;> iassumption

end Buffers

end Cert.KernelIdeal.Exch

end
-- ==== Proof.KernelIdeal.Deal.lean ====
/- What the launch deals: the schedule's cells set up on every device, the tokens of the payments carried to
   the devices that make them, and the credits of the payments to those that wait for them. -/
module

public import proofs.«01_k».proof.Proof.KernelIdeal.Pieces
public import proofs.«01_k».proof.Proof.Gen.KernelIdeal.Launch

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x1024.Idx → Elt F .bf16)

/-! ## The cells and the tokens -/

/-- A device's cells lie on different semaphores; -/
theorem csem_injective : Function.Injective csem := by
  rintro (a | k) (a' | k') h
  · rfl
  · cases h
  · cases h
  · have h' : dmaNo k = dmaNo k' := SemLoc.dma.inj h
    have h'' := congrArg dec h'
    rw [dec_dmaNo, dec_dmaNo] at h''
    rw [Option.some.inj h'']

/-- so all cells of all devices differ, -/
theorem kcell_injective : Function.Injective kcell := by
  rintro ⟨c, k⟩ ⟨c', k'⟩ h
  have h₁ : c = c' := congrArg (fun g : GSem nD τ sig => g.1.1) h
  have h₂ : k = k' := csem_injective (congrArg Prod.snd h)
  rw [h₁, h₂]

/-- A device's own payments: the barrier's two, and one to each transfer's cell. -/
abbrev TK : Type := Bool ⊕ DK
@[inherit_doc TK]
def tokOf (p : Dev nD × TK) : GSem nD τ sig × ℕ × Bool := match p.2 with
  | .inl b => (barCell p.1, 0, b)
  | .inr k => (dcell p.1 k, 0, false)

/-- and so do all tokens. -/
theorem tokOf_injective : Function.Injective tokOf := by
  rintro ⟨c, t⟩ ⟨c', t'⟩ h
  have h₀ : (tokOf (c, t)).1 = (tokOf (c', t')).1 := congrArg Prod.fst h
  have h₂ : (tokOf (c, t)).2.2 = (tokOf (c', t')).2.2 := congrArg (fun x => x.2.2) h
  rcases t with b | k <;> rcases t' with b' | k'
  · have e := kcell_injective (a₁ := (c, .inl ())) (a₂ := (c', .inl ())) h₀
    cases e; cases h₂; rfl
  · have e := kcell_injective (a₁ := (c, .inl ())) (a₂ := (c', .inr k')) h₀
    cases e
  · have e := kcell_injective (a₁ := (c, .inr k)) (a₂ := (c', .inl ())) h₀
    cases e
  · have e := kcell_injective (a₁ := (c, .inr k)) (a₂ := (c', .inr k')) h₀
    cases e; rfl

/-- The exchange's cells, -/
def exCells : Finset (GSem nD τ sig) := Finset.univ.map ⟨kcell, kcell_injective⟩
/-- and its tokens. -/
def exToks : Finset (GSem nD τ sig × ℕ × Bool) := Finset.univ.map ⟨tokOf, tokOf_injective⟩

/-- The exchange's state at the start, beside the staging's. -/
def u₀ : UU :=
  (initOf (Pipeline.cells cfgs cellOf_inj) (Pipeline.launchToks cfgs cellOf_inj), initOf exCells exToks)

/-- The tokens for the payments to a device's own cells. -/
def ownToks (c : Dev nD) : sProp 𝕄 :=
  bigSep Finset.univ fun t : TK => dutyTok ER (tokOf (c, t)).1 (tokOf (c, t)).2.1 (tokOf (c, t)).2.2

/-- Of all cells: their states before the first round, and the turns to wait with the round they are at. -/
def states (c : Dev nD) : sProp 𝕄 := bigSep Finset.univ fun k : CK => roundState ER (Rd X) (kcell (c, k)) 0
@[inherit_doc states]
def places (c : Dev nD) : sProp 𝕄 := bigSep Finset.univ fun k : CK => iprop(atPos ER (kcell (c, k)) 0 ∅ 0 ∗ reached ER (kcell (c, k)) 0)
/-- Of all cells: their invariants under some names. -/
def invsOf (c : Dev nD) : sProp 𝕄 := bigSep Finset.univ fun k : CK => iprop(∃ κ : ℕ, cellInv ER (Rd X) κ (kcell (c, k)))

/-- A device's share of the exchange's state. -/
def G (c : Dev nD) : sProp 𝕄 := iprop(states X c ∗ places (F := F) c ∗ ownToks (F := F) c)

omit [FloatOps F] in
/-- A conjunction over all cells is one over the devices and the cells of each; -/
theorem over_cells (Φ : GSem nD τ sig → sProp 𝕄) :
    bigSep exCells Φ = bigSep Finset.univ fun c : Dev nD => bigSep Finset.univ fun k : CK => Φ (kcell (c, k)) := by
  unfold exCells; rw [bigSep_map, bigSep_univ_prod]; rfl

omit [FloatOps F] in
/-- that over all tokens is one over the devices. -/
theorem over_toks : bigSep exToks (fun x => (dutyTok ER x.1 x.2.1 x.2.2 : sProp 𝕄)) = bigSep Finset.univ (ownToks (F := F)) := by
  unfold exToks; rw [bigSep_map, bigSep_univ_prod]; rfl

/-- The exchange's state, dealt to the devices. -/
theorem fund_all : BI.own (ER (initOf exCells exToks)) ⊢ (|==> bigSep Finset.univ (G X) : sProp 𝕄) := by
  have h : bigSep Finset.univ (G X)
      = iprop((bigSep exCells fun g => roundState ER (Rd X) g 0) ∗ (bigSep Finset.univ (places (F := F))) ∗ bigSep Finset.univ (ownToks (F := F))) := by
    rw [over_cells, ← bigSep_sep', ← bigSep_sep']; rfl
  have hp : bigSep Finset.univ (places (F := F))
      = iprop((bigSep exCells fun g => atPos ER g 0 ∅ 0) ∗ bigSep exCells fun g => reached ER g 0) := by
    rw [← bigSep_sep', over_cells]; rfl
  rw [h, hp, ← over_toks]
  iintro H
  imod (Rounds.fund ER (Rd X) exCells exToks) $$ H with ⟨Hs, Hr, Ha, Ht⟩
  imodintro
  isplitl [Hs]; · iexact Hs
  isplitl [Ha Hr]
  · isplitl [Ha] <;> iassumption
  iexact Ht

/-! ## The semaphores -/

omit [FloatOps F] in
theorem own_sems (c : Dev nD) : (Pipeline.ownSems0 (Ix := Unit) (Name := ℕ) (U := UU) (Lvl := ℕ) (Val := Elt F) (τ := τ) osem c : sProp 𝕄)
    = bigSep Finset.univ fun k : DK => semVal (dcell c k) 0 := rfl

omit [FloatOps F] in
/-- The one counter that outlives the call is the barrier's. -/
theorem bar_sem (c : Dev nD) : (unscopedSems0 c : sProp 𝕄) = semVal (barCell c) 0 := by
  unfold unscopedSems0; rw [bigSep_eq_bigSepL_of_eq [SemLoc.reg barS] (by decide) (by decide)]; rfl

/-- A device's counters at zero become its cells. -/
theorem set_up (c : Dev nD) :
    iprop(Pipeline.ownSems0 (Ix := Unit) (Name := ℕ) (U := UU) (Lvl := ℕ) (Val := Elt F) (τ := τ) osem c ∗ unscopedSems0 c ∗ G X c)
      ⊢ |={Set.univ}=> iprop(invsOf X c ∗ places (F := F) c ∗ ownToks (F := F) c) := by
  have hv : iprop((bigSep Finset.univ fun k : CK => semVal (kcell (c, k)) 0) ∗ states X c) ⊢ (|={Set.univ}=> invsOf X c : sProp 𝕄) := by
    unfold states invsOf
    rw [← bigSep_sep']
    exact (bigSep_mono fun k _ => (Rounds.body_intro ER (Rd X) (kcell (c, k))).trans inv_alloc).trans (bigSep_fupd _ _)
  have hs : (bigSep Finset.univ fun k : CK => (semVal (kcell (c, k)) 0 : sProp 𝕄))
      = iprop(semVal (barCell c) 0 ∗ bigSep Finset.univ fun k : DK => semVal (dcell c k) 0) := by
    rw [bigSep_univ_sum, bigSep_univ_eq_bigSepL [()] (by decide) (by decide), bigSepL_singleton]
    rfl
  rw [own_sems, bar_sem]
  unfold G
  iintro ⟨Hd, Hb, Hst, Hpl, Htk⟩
  imod hv $$ [Hd Hb Hst] with Hi
  · isplitl [Hd Hb]
    · iapply (Entails.of_eq hs.symm); isplitl [Hb] <;> iassumption
    iexact Hst
  imodintro
  isplitl [Hi]; · iexact Hi
  isplitl [Hpl] <;> iassumption

/-! ## The tokens go to the payers -/

omit [FloatOps F] in
/-- The x-neighbours and the y-neighbours pair the devices, so tokens held by one of a pair may be held by the other. -/
theorem to_neighbours (Φ Ψ : Dev nD → sProp 𝕄) : iprop((bigSep Finset.univ Φ) ∗ bigSep Finset.univ Ψ)
    ⊢ iprop((bigSep Finset.univ fun c => Φ (xp c)) ∗ bigSep Finset.univ fun c => Ψ (yp c)) := by
  rw [bigSep_univ_equiv xSwap Φ, bigSep_univ_equiv ySwap Ψ]
  exact Entails.refl _

omit [FloatOps F] in
/-- A device's tokens, kind by kind. -/
theorem ownToks_eq (c : Dev nD) : ownToks (F := F) c = iprop((dutyTok ER (barCell c) 0 false ∗ dutyTok ER (barCell c) 0 true)
    ∗ toks (F := F) c xs ∗ toks (F := F) c xr ∗ toks (F := F) c ys ∗ toks (F := F) c yr) := by
  unfold ownToks toks
  rw [bigSep_univ_sum, bigSep_DK, bigSep_univ_eq_bigSepL [false, true] (by decide) (by decide), bigSepL_cons_cons, bigSepL_singleton]
  rfl

/-- What a device pays with. -/
def payToks (c : Dev nD) : sProp 𝕄 :=
  iprop(dutyTok ER (barCell (xp c)) 0 false ∗ dutyTok ER (barCell (yp c)) 0 true
    ∗ toks (F := F) c xs ∗ toks (F := F) (xp c) xr ∗ toks (F := F) c ys ∗ toks (F := F) (yp c) yr)

omit [FloatOps F] in
/-- All tokens together are those that the devices pay with. -/
theorem carry : bigSep Finset.univ (ownToks (F := F)) ⊢ bigSep Finset.univ (payToks (F := F)) := by
  rw [show bigSep Finset.univ (ownToks (F := F)) = bigSep Finset.univ fun c => iprop((dutyTok ER (barCell c) 0 false ∗ dutyTok ER (barCell c) 0 true)
    ∗ toks (F := F) c xs ∗ toks (F := F) c xr ∗ toks (F := F) c ys ∗ toks (F := F) c yr) from bigSep_congr fun c _ => ownToks_eq c]
  unfold payToks
  simp only [bigSep_sep']
  iintro ⟨⟨H₁, H₂⟩, H₃, H₄, H₅, H₆⟩
  ihave Hb := (to_neighbours (fun c : Dev nD => (dutyTok ER (barCell c) 0 false : sProp 𝕄)) (fun c => dutyTok ER (barCell c) 0 true)) $$ [H₁ H₂]
  · isplitl [H₁] <;> iassumption
  ihave Ht := (to_neighbours (fun c : Dev nD => toks (F := F) c xr) (fun c => toks (F := F) c yr)) $$ [H₄ H₆]
  · isplitl [H₄] <;> iassumption
  icases Hb with ⟨H₁, H₂⟩
  icases Ht with ⟨H₄, H₆⟩
  isplitl [H₁]; · iexact H₁
  isplitl [H₂]; · iexact H₂
  isplitl [H₃]; · iexact H₃
  isplitl [H₄]; · iexact H₄
  isplitl [H₅] <;> iassumption

/-! ## All devices at once -/

/-- The invariants and the rounds reached, of every cell. -/
def common (K : Dev nD × CK → ℕ) : sProp 𝕄 :=
  iprop((bigSep Finset.univ fun p : Dev nD × CK => cellInv ER (Rd X) (K p) (kcell p))
    ∗ bigSep Finset.univ fun p : Dev nD × CK => reached ER (kcell p) 0)
instance common_persistent (K : Dev nD × CK → ℕ) : BI.Persistent (common X K) := by unfold common; infer_instance

/-- What a device starts from: those, and what is dealt to it. -/
def G' (c : Dev nD) : sProp 𝕄 := iprop(∃ K, common X K ∗ dealt (F := F) c)

/-- All devices' places: their turns, and that every cell has reached its round. -/
theorem places_eq : bigSep Finset.univ (places (F := F))
    = iprop((bigSep Finset.univ fun c : Dev nD => iprop(atPos ER (barCell c) 0 ∅ 0 ∗ bigSep Finset.univ fun k : DK => atPos ER (dcell c k) 0 ∅ 0))
      ∗ bigSep Finset.univ fun p : Dev nD × CK => reached ER (kcell p) 0) := by
  have h (c : Dev nD) : places (F := F) c = iprop((atPos ER (barCell c) 0 ∅ 0 ∗ bigSep Finset.univ fun k : DK => atPos ER (dcell c k) 0 ∅ 0)
      ∗ bigSep Finset.univ fun k : CK => reached ER (kcell (c, k)) 0) := by
    unfold places
    rw [bigSep_sep', bigSep_univ_sum, bigSep_univ_eq_bigSepL [()] (by decide) (by decide), bigSepL_singleton]
    rfl
  rw [show places (F := F) = _ from funext h, bigSep_sep', ← bigSep_univ_prod (fun p : Dev nD × CK => (reached ER (kcell p) 0 : sProp 𝕄))]

/-- Invariants, places and tokens of all devices make what each of them starts from: the records are shared, every token goes to the device that pays with it. -/
theorem regroup : (bigSep Finset.univ fun c : Dev nD => iprop(invsOf X c ∗ places (F := F) c ∗ ownToks (F := F) c)) ⊢ bigSep Finset.univ (G' X) := by
  have hi : bigSep Finset.univ (invsOf X) = bigSep Finset.univ fun p : Dev nD × CK => (iprop(∃ κ : ℕ, cellInv ER (Rd X) κ (kcell p)) : sProp 𝕄) := by
    rw [bigSep_univ_prod]; rfl
  rw [bigSep_sep', bigSep_sep', places_eq]
  rw [show (bigSep Finset.univ fun c => invsOf X c) = _ from hi]
  iintro ⟨Hi, ⟨Ha, #Hr⟩, Ht⟩
  ihave Hi := (BI.bigSep_exists_pi Finset.univ (fun (p : Dev nD × CK) (κ : ℕ) => (cellInv ER (Rd X) κ (kcell p) : sProp 𝕄))) $$ Hi
  icases Hi with ⟨%K, #Hi⟩
  ihave Ht := (carry (F := F)) $$ Ht
  have hd (c : Dev nD) : iprop(common X K ∗ (atPos ER (barCell c) 0 ∅ 0 ∗ bigSep Finset.univ fun k : DK => atPos ER (dcell c k) 0 ∅ 0) ∗ payToks (F := F) c) ⊢ G' X c := by
    unfold G' dealt payToks
    iintro ⟨#HC, ⟨H₁, H₂⟩, H₃⟩
    iexists K
    isplitr; · iexact HC
    isplitl [H₁]; · iexact H₁
    isplitl [H₂] <;> iassumption
  iapply (bigSep_with_persistent (R := common X K) fun c _ => hd c)
  isplitr
  · unfold common; isplitl; · iexact Hi
    iexact Hr
  · iapply (Entails.of_eq (bigSep_sep' Finset.univ _ (payToks (F := F))).symm)
    isplitl [Ha] <;> iassumption

/-- The counters of all devices and the exchange's state make what the devices start from. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => set_up X c).trans (bigSep_fupd _ _)).trans (BI.fupd_mono (regroup X))

/-! ## The credits -/

omit [FloatOps F] in
/-- What the neighbours owe a device at the start is the credit that it waits with. -/
theorem creds (c : Dev nD) : (Pipeline.launchCred O₀ c : sProp 𝕄) ⊢ credits (F := F) c := by
  have hx (sm : SemLoc sig) (n : ℕ) := Pipeline.launchCred_tallyAt (Val := Elt F) (Name := ℕ) (U := UU) (Lvl := ℕ) (τ := τ) sm xp xp xp_xp xp_xp () n c
  have hy (sm : SemLoc sig) (n : ℕ) := Pipeline.launchCred_tallyAt (Val := Elt F) (Name := ℕ) (U := UU) (Lvl := ℕ) (τ := τ) sm yp yp yp_yp yp_yp () n c
  have e : (O₀ : Dev nD → CellTallies nD τ sig Unit) = fun d => (((∑ j : Fin 10, tallyAt (dcell (xp d) (xr j)) () N) + ∑ j : Fin 6, tallyAt (dcell (yp d) (yr j)) () N)
      + tallyAt (barCell (yp d)) () 1) + tallyAt (barCell (xp d)) () 1 := by
    funext d; unfold O₀ xO yO
    simp only [Nat.zero_le, Finset.filter_true]
  rw [e, Pipeline.launchCred_add, Pipeline.launchCred_add, Pipeline.launchCred_add, Pipeline.launchCred_sum, Pipeline.launchCred_sum]
  have hxs : (bigSep Finset.univ fun j : Fin 10 => Pipeline.launchCred (fun d => tallyAt (dcell (xp d) (xr j)) () N) c : sProp 𝕄)
      ⊢ bigSep Finset.univ fun j : Fin 10 => cred (tallyAt (dcell c (xr j)) () N) := bigSep_mono fun j _ => hx (osem (xr j)) N
  have hys : (bigSep Finset.univ fun j : Fin 6 => Pipeline.launchCred (fun d => tallyAt (dcell (yp d) (yr j)) () N) c : sProp 𝕄)
      ⊢ bigSep Finset.univ fun j : Fin 6 => cred (tallyAt (dcell c (yr j)) () N) := bigSep_mono fun j _ => hy (osem (yr j)) N
  unfold credits
  rw [← tallyAt_add (barCell c) () 1 1]
  iintro ⟨⟨⟨H₁, H₂⟩, H₃⟩, H₄⟩
  isplitl [H₃ H₄]
  · iapply (cred_add _ _).2
    isplitl [H₃]
    · iapply (hy (.reg barS) 1); iexact H₃
    · iapply (hx (.reg barS) 1); iexact H₄
  isplitl [H₁]
  · iapply hxs; iexact H₁
  · iapply hys; iexact H₂

end Cert.KernelIdeal.Exch

end
-- ==== Proof.KernelIdeal.Run.lean ====
/- The launch: the body's resources out of what the launch deals, and the run of the whole program. -/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The start: any memory and generator registers, every counter zero. -/
def s₀ : MemSt nD τ sig (Elt F) := ⟨m, fun _ => 0, ρ⟩

/-- A device's block of the argument, as the staging fetches it. -/
def xAt (c : Dev nD) : S512x1024.Idx → Elt F .bf16 :=
  (win0_0.blk (0 : Fin 1)).view.read (Elt F) ((s₀ m ρ).mem ((c : Thread nD τ).loc main_arg0))

/-- What the exchange makes of the blocks, on device `c`. -/
def outAt (c : Dev nD) : S1024x512.Idx → Elt F .bf16 := outC (xAt m ρ) c

/-! ## Before and after the body -/

/-- What the launch leaves a device with, its buffers aside. -/
def start (c : Dev nD) : sProp 𝕄 := iprop((∃ K, records (xAt m ρ) K ∗ dealt (F := F) c) ∗ credits (F := F) c)

/-- Before the body: that, and the send buffer; -/
def Φ₀ (c : Dev nD) : sProp 𝕄 := iprop(start m ρ c ∗ ∃ g, sPts (F := F) c Finset.univ g)
/-- after it: the send buffer, and all counters at zero. -/
def Φ₁ (c : Dev nD) : sProp 𝕄 :=
  iprop((∃ g, sPts (F := F) c Finset.univ g) ∗ semVal (barCell c) 0 ∗ bigSep Finset.univ fun k : DK => semVal (dcell c k) 0)

/-- The call's arrays, buffers and debts before and after its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- The call has one point. -/
theorem one_point : cfg0.N = 1 := by decide
/-- The one point. -/
def t₀ : Fin cfg0.N := ⟨0, by rw [one_point]; decide⟩
/-- Every point is that. -/
theorem only_t₀ (t : Fin cfg0.N) : t = t₀ := by
  have h := lt_of_lt_of_eq t.isLt one_point
  exact Fin.ext (show t.val = 0 by omega)

omit [FloatOps F] in
/-- A conjunction over the windows is one over the two. -/
theorem both_windows (Φ : Fin cfg0.W → sProp 𝕄) : bigSep Finset.univ Φ = iprop(Φ (0 : Fin 2) ∗ Φ (1 : Fin 2)) := bigSep_W0 Φ

omit [FloatOps F] in
/-- To own a whole buffer through its memref is to hold it at those contents. -/
theorem owns_buffer (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

/-- The body on any device, by its place along the first mesh axis. -/
theorem wp_body (X : Dev nD → S512x1024.Idx → Elt F .bf16) (K : Dev nD × CK → ℕ) (c : Dev nD) :
    iprop(records X K ∗ toBar (F := F) c ∗ rest₀ X c)
      ⊢ WP c (cc0_body xM (Memref.isWhole_whole _) oM (Memref.isWhole_whole _) sM (Memref.isWhole_whole _)
          cc0_scratch1 cc0_scratch2 cc0_scratch3 cc0_scratch4) (fun _ => done X c) := by
  have h := px_lt c
  by_cases hp : px c = 0
  · exact wp_body1 X K c ((cond1_iff c).2 hp) fun h' => by have := (cond2_iff c).1 h'; omega
  · exact wp_body2 X K c ((cond2_iff c).2 (by omega)) fun h' => hp ((cond1_iff c).1 h')

set_option maxRecDepth 4000 in
/-- What the call hands the body on `c`; -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- and what it wants back. -/
def bodyPost (c : Dev nD) : sProp 𝕄 :=
  iprop(Φ₁ (F := F) c ∗ (dats m ρ 0 c).owesAt () t₀.succ ∗ stg c cc0_stg0_0 (xAt m ρ c) ∗ stg c cc0_stg1_0 (outAt m ρ c))

/-- What the body ends with is what the call wants back. -/
theorem body_ends (c : Dev nD) : done (xAt m ρ) c ⊢ bodyPost m ρ c := by
  refine (leave c (xAt m ρ)).trans ?_
  unfold bodyPost Φ₁ owesE xPts oPts Dat.owesAt Pipeline.owesWithin
  rw [show (dats m ρ 0 c).owed t₀.succ = 0 from rfl]
  iintro ⟨⟨%W, HO⟩, Hx, Ho, Hs, Hz, Hd⟩
  isplitl [Hs Hz Hd]
  · isplitl [Hs]; · iexact Hs
    isplitl [Hz] <;> iassumption
  isplitl [HO]
  · iexists W
    isplitr; · ipureintro; exact fun _ _ => Or.inl trivial
    iexact HO
  isplitl [Hx]
  · iexists _; isplitr; · ipureintro; rfl
    iexact Hx
  iexists _; isplitr; · ipureintro; rfl
  iexact Ho

set_option maxRecDepth 4000 in
/-- What the call hands the body is what it begins with. -/
theorem body_begins (c : Dev nD) : bodyPre m ρ c ⊢ iprop(∃ K, records (xAt m ρ) K ∗ toBar (F := F) c ∗ rest₀ (xAt m ρ) c) := by
  unfold bodyPre Φ₀ start Dat.owesAt Pipeline.owesWithin
  rw [show (dats m ρ 0 c).owed t₀.castSucc = O₀ c from rfl]
  iintro ⟨⟨⟨⟨%K, #HR, Hd⟩, Hc⟩, ⟨%g, Hs⟩⟩, ⟨%W, %hW, HO⟩, ⟨%d₀, %g₀, %h₀, Hx⟩, ⟨%d₁, %g₁, %h₁, Ho⟩⟩
  have hx : g₀ = xAt m ρ c := by rw [h₀]; unfold Dat.before; rw [if_pos (fetch0_0 t₀)]; rfl
  subst hx
  iexists K
  isplitr; · iexact HR
  iapply (enter c (xAt m ρ) g₁ g)
  unfold owesE xPts oPts
  isplitl [HO]; · iexists W; iexact HO
  isplitl [Hd]; · iexact Hd
  isplitl [Hc]; · iexact Hc
  isplitl [Hx]; · iexact Hx
  isplitl [Ho] <;> iassumption

set_option maxRecDepth 4000 in
/-- The body meets the call's terms on every device. -/
theorem body_obligation (c : Dev nD) : BodyObligation (dats (F := F) m ρ 0 c) (defs₀ (F := F)) 𝒱₀ () Set.univ := fun t => by
  rw [only_t₀ t]
  rw [both_windows, both_windows]
  simp only [owns_buffer]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  have hw (K : Dev nD × CK → ℕ) := (wp_body (xAt m ρ) K c).trans (wp_mono _ _ _ (Q' := fun _ => bodyPost m ρ c) fun _ => body_ends m ρ c)
  refine (body_begins m ρ c).trans ?_
  iintro ⟨%K, H⟩
  iapply (hw K)
  iexact H

/-! ## The launch's terms -/

/-- The body's semaphores are its own: the staging uses none of them. -/
theorem own_facts : Pipeline.OwnSemFacts cfg0.spec osem := by decide

/-- Every array is held whole. -/
theorem share_full (c : Dev nD) (w : Fin cfg0.W) : (dats m ρ 0 c).share w = fullShare := by unfold Dat.share; split <;> rfl

/-- What the launch deals to a device is the body's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xAt m ρ) c)
      ⊢ |={Set.univ}=> iprop(start m ρ c ∗ emp) := by
  unfold start G' records common
  iintro ⟨-, #Hl, Hc, -, ⟨%K, ⟨#Hi, #Hr⟩, Hd⟩⟩
  ihave Hc := (creds (F := F) c) $$ Hc
  imodintro
  isplitl
  · isplitl [Hd]
    · iexists K
      isplitr
      · isplitr; · iexact Hi
        isplitr; · iexact Hr
        iexact Hl
      iexact Hd
    iexact Hc
  iempintro

/-- With the send buffer it is what the call begins with; -/
theorem enter_body (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sPts
  iintro ⟨Hs, -, H⟩
  isplitl [Hs] <;> iassumption

/-- and what the call ends with gives all scoped buffers and counters back. -/
theorem leave_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, own_sems, bar_sem]
  unfold Φ₁ sPts
  iintro ⟨Hs, Hb, Hd⟩
  isplitl [Hb]; · iexact Hb
  isplitl [Hd] <;> iassumption

/-- The staging's semaphores lie below everything that is owed. -/
theorem waits (c : Dev nD) : (levAts L lv : sProp 𝕄) ⊢ Pipeline.cellsWaits cfgs (dats m ρ) () 0 c :=
  Pipeline.cellsWaits_intro cfgs (dats m ρ) () 0 c fun w s t => by
    refine mayWait_of c _ _ 0 (by fin_cases w <;> fin_cases s <;> decide) fun g u hg => ?_
    rcases t with ⟨_ | _, ht⟩
    · exact above_O₀ c g u hg
    · exact absurd hg (Nat.lt_irrefl 0)

/-! ## The run -/

/-- A window's array on `c` after the run. -/
def finalA (c : Dev nD) (w : Fin cfg0.W) : Buf (Elt F) ((cfg0.win w).arr.view.loc (c : Thread nD τ)) := (dats m ρ 0 c).arrAt w cfg0.N

/-- Every window's array, on every device, is that. -/
def Ends (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- From any memory with zero counters, for any float values: the program terminates without fault, with
    every window's array as said and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G (xAt m ρ)) (G' := G' (xAt m ρ)) (u₀ := u₀)
    (hu₀ := by
      unfold u₀
      iintro Hu
      ihave H := (ownU_pair _ _) $$ Hu
      icases H with ⟨HP, HX⟩
      imod (fund_all (xAt m ρ)) $$ HX with HG
      imodintro
      isplitl [HP] <;> iassumption)
    (hglob := glob (xAt m ρ))
    (hA := fun _ _ => rfl) (hpf := fun _ k => k.elim0)
    (X := start m ρ) (Y := fun c => unscopedSems0 c) (Z := fun _ => iprop(emp))
    (hX := start_intro m ρ) (hin := enter_body m ρ) (hout := leave_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Exch

end
-- ==== Proof.KernelIdeal.Value.lean ====
/- What the run leaves in the result's array, and why that is a block of the whole array. -/
module

public import proofs.«01_k».proof.Proof.KernelIdeal.Run
public import Idealize.ShloMosaic.Lib.Layout

@[expose] public section

noncomputable section

namespace Cert.KernelIdeal.Exch

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The two arrays -/

/-- The argument's window is its whole array, so the block fetched is the array; -/
theorem xAt_eq (c : Dev nD) : xAt m ρ c = m ((c : Thread nD τ).loc main_arg0) :=
  Memref.read_access_unit_zero (Elt F) main_arg0
    (show (fun a => win0_0.index (0 : Fin 1) a * main_arg0.ty.shape.size a) = fun _ => 0 from funext fun a => by fin_cases a <;> decide)
    (fun a => by fin_cases a <;> decide) _

/-- so is the result's, and what the flush leaves there is what the body left in the buffer. -/
theorem finalA_o (c : Dev nD) : finalA m ρ c (1 : Fin 2) = outAt m ρ c := by
  have hr : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  refine Eq.trans (Eq.symm ?_) hr
  exact Memref.read_access_unit_zero (Elt F) main_v1
    (show (fun a => win0_1.index (0 : Fin 1) a * main_v1.ty.shape.size a) = fun _ => 0 from funext fun a => by fin_cases a <;> decide)
    (fun a => by fin_cases a <;> decide) _

/-! ## The blocks -/

/-- Whichever device a row comes from, its block begins at the row's half. -/
theorem px_src (c : Dev nD) {R : ℕ} (hR : R < 1024) : px (src c R) = R / 512 := by
  have := px_lt c
  unfold src
  split
  · omega
  split
  · rw [px_xp]; omega
  · rw [px_yp, px_xp]; omega

/-- Where an entry of a device's row block lies in the whole array; -/
theorem rows_at (c : Dev nD) (i : S512x1024.Idx) (h) (b : Fin 2) :
    (Layout.TilesN.idx (S := ⟨2, ![512, 1024]⟩) (T := ⟨2, ![1024, 1024]⟩) h (Layout.meshBlock [2, 2] ![[0], []] c) i b).val
      = ![px c * 512 + (i 0).val, (i 1).val] b := by
  have hc : c.val < 4 := c.isLt
  unfold px
  match b with
  | ⟨0, _⟩ =>
    show (c.val / 2 % 2 * 1 + 0) * 512 + (i 0).val = c.val / 2 * 512 + (i 0).val
    omega
  | ⟨1, _⟩ => exact (congrArg (· + (i 1).val) (Nat.zero_mul 1024)).trans (Nat.zero_add _)

/-- and an entry of its column block. -/
theorem cols_at (c : Dev nD) (i : S1024x512.Idx) (h) (b : Fin 2) :
    (Layout.TilesN.idx (S := ⟨2, ![1024, 512]⟩) (T := ⟨2, ![1024, 1024]⟩) h (Layout.meshBlock [2, 2] ![[], [0]] c) i b).val
      = ![(i 0).val, px c * 512 + (i 1).val] b := by
  have hc : c.val < 4 := c.isLt
  unfold px
  match b with
  | ⟨0, _⟩ => exact (congrArg (· + (i 0).val) (Nat.zero_mul 1024)).trans (Nat.zero_add _)
  | ⟨1, _⟩ =>
    show (c.val / 2 % 2 * 1 + 0) * 512 + (i 1).val = c.val / 2 * 512 + (i 1).val
    omega

/-- If the arguments are the row blocks of one array, along the first mesh axis, then what the exchange
    makes of them are that array's column blocks along it. -/
theorem outC_block (X : Dev nD → S512x1024.Idx → Elt F .bf16) (v : (⟨2, ![1024, 1024]⟩ : Shape).Idx → Elt F .bf16)
    (hX : ∀ c : Dev nD, X c = Layout.blockN ⟨2, ![512, 1024]⟩ ⟨2, ![1024, 1024]⟩ (Layout.meshBlock [2, 2] ![[0], []] c) v) (c : Dev nD) :
    outC X c = Layout.blockN ⟨2, ![1024, 512]⟩ ⟨2, ![1024, 1024]⟩ (Layout.meshBlock [2, 2] ![[], [0]] c) v := by
  funext i
  have h0 : (i 0).val < 1024 := (i 0).isLt
  have h1 : (i 1).val < 512 := (i 1).isLt
  have hp := px_lt c
  unfold outC
  rw [hX, Layout.blockN_apply, Layout.blockN_apply]
  refine congrArg v (funext fun b => Fin.ext ?_)
  rw [rows_at, cols_at]
  match b with
  | ⟨0, _⟩ =>
    show px (src c (i 0).val) * 512 + (i 0).val % 512 % 512 = (i 0).val
    rw [px_src c h0]; omega
  | ⟨1, _⟩ =>
    show (px c * 512 + (i 1).val) % 1024 = px c * 512 + (i 1).val
    omega

/-! ## The claims -/

/-- From any memory with zero counters, for any float values: the program terminates without fault, its
    argument unchanged and every counter at zero. -/
theorem runs_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- If the argument's arrays are the row blocks of `v`, the results' arrays end as its column blocks. -/
theorem runs_value (v : (⟨2, ![1024, 1024]⟩ : Shape).Idx → Elt F .bf16)
    (hv : ∀ c : Dev nD, m ((c.tc : Thread nD τ).loc main_arg0)
      = Layout.blockN ⟨2, ![512, 1024]⟩ ⟨2, ![1024, 1024]⟩ (Layout.meshBlock [2, 2] ![[0], []] c) v) :
    θ_run defs (onTc (τ := τ) (main (F := F))) ⟨m, fun _ => 0, ρ⟩ (fun r => ∀ c : Dev nD,
      r.2.mem ((c.tc : Thread nD τ).loc main_v1)
          = Layout.blockN ⟨2, ![1024, 512]⟩ ⟨2, ![1024, 1024]⟩ (Layout.meshBlock [2, 2] ![[], [0]] c) v
        ∧ r.2.mem ((c.tc : Thread nD τ).loc main_arg0) = m ((c.tc : Thread nD τ).loc main_arg0)) :=
  (θ_run defs _ _).mono (fun _ h c =>
    ⟨(h.1 c (1 : Fin 2)).trans ((finalA_o m ρ c).trans (outC_block (xAt m ρ) v (fun d => (xAt_eq m ρ d).trans (hv d)) c)),
      (h.1 c (0 : Fin 2)).trans (finalA_x m ρ c)⟩) (run_main m ρ)

end Cert.KernelIdeal.Exch

end
-- ==== Proof.Reference.Run.lean ====
/- The run of the reference: it returns its argument, so nothing happens. -/
module

public import proofs.«01_k».proof.Proof.Gen.Reference
public import Idealize.ShloMosaic.Lib.StableHlo.Run
public import Idealize.ShloMosaic.Lib.Pipeline.Quiescent

@[expose] public section

noncomputable section

namespace Cert.Reference.Id

open Cert.Reference Cert.Reference.Gen
open Idealize.ShloMosaic Idealize.SL.Sem

variable {F : FTy → Type} [FloatOps F]

/-- From any memory with zero counters, for any float values: the program terminates without fault, its
    argument, which is also its result, unchanged and every counter at zero. -/
theorem runs (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Reference.Id

end
-- ==== Proof.ReferenceIdeal.Run.lean ====
/- The run of the reference: it returns its argument, so nothing happens. -/
module

public import proofs.«01_k».proof.Proof.Gen.ReferenceIdeal
public import Idealize.ShloMosaic.Lib.StableHlo.Run
public import Idealize.ShloMosaic.Lib.Pipeline.Quiescent

@[expose] public section

noncomputable section

namespace Cert.ReferenceIdeal.Id

open Cert.ReferenceIdeal Cert.ReferenceIdeal.Gen
open Idealize.ShloMosaic Idealize.SL.Sem

variable {F : FTy → Type} [FloatOps F]

/-- From any memory with zero counters, for any float values: the program terminates without fault, its
    argument, which is also its result, unchanged and every counter at zero. -/
theorem runs (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdeal.Id

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Kernel.Value
public import proofs.«01_k».proof.Proof.KernelIdeal.Value
public import proofs.«01_k».proof.Proof.Reference.Run
public import proofs.«01_k».proof.Proof.ReferenceIdeal.Run
public import Idealize.ShloMosaic.Adequacy
public import Idealize.ShloMosaic.Init

@[expose] public section

noncomputable section

namespace Cert.Proof

open Idealize.ShloMosaic Idealize.SL.Sem

/-- The kernel on bits runs, leaving its arguments and the counters as they were; -/
theorem frame_p : Cert.quiescent_Kernel := fun m ρ _ => Cert.Kernel.Exch.runs_frame m ρ
/-- so does the kernel on the extended reals, -/
theorem frame_pi : Cert.quiescent_KernelIdeal := fun m ρ _ => Cert.KernelIdeal.Exch.runs_frame m ρ
/-- the reference on the extended reals, -/
theorem frame_ri : Cert.quiescent_ReferenceIdeal := fun m ρ _ => Cert.ReferenceIdeal.Id.runs m ρ
/-- and the reference on bits. -/
theorem frame_r : Cert.quiescent_Reference := fun m ρ _ => Cert.Reference.Id.runs m ρ

/-- On the extended reals the devices' results are the column blocks of the reference's. -/
theorem algebraic : Cert.algebraic_KernelIdeal_ReferenceIdeal := fun m ρ m' ρ' _ hm =>
  ⟨_, Cert.KernelIdeal.Exch.runs_value m ρ _ hm,
    (θ_run Cert.ReferenceIdeal.defs _ _).mono (fun _ h => ⟨h.1 0, h.1 0⟩) (Cert.ReferenceIdeal.Id.runs m' ρ')⟩

/-- On bits they are too, bit for bit. -/
theorem bitexact : Cert.bitexact_Kernel_Reference := fun m ρ m' ρ' _ hm =>
  ⟨_, Cert.Kernel.Exch.runs_value m ρ _ hm,
    (θ_run Cert.Reference.defs _ _).mono (fun _ h => ⟨h.1 0, h.1 0⟩) (Cert.Reference.Id.runs m' ρ')⟩

/-- Everything claimed. -/
theorem claim : Cert.Claim :=
  ⟨Cert.Kernel.Gen.facts, Cert.KernelIdeal.Gen.facts, Cert.ReferenceIdeal.Gen.facts, Cert.Reference.Gen.facts,
    frame_p, frame_pi, frame_ri, frame_r, trivial, algebraic, bitexact⟩

end Cert.Proof

end
